-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_queries_and_keys [hPre_real_queries_and_keys : Cert.Pre_real_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_real_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_queries_and_keys [hPre_real_queries_and_keys : Cert.Pre_real_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_real_queries_and_keys [hKernelIdeal : Cert.KernelIdeal.Facts] [hPre_real_queries_and_keys : Cert.Pre_real_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_real_queries_and_keys [hReferenceIdeal : Cert.ReferenceIdeal.Facts] [hPre_real_queries_and_keys : Cert.Pre_real_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_real_queries_and_keys [hKernelIdeal : Cert.KernelIdeal.Facts] [hReferenceIdeal : Cert.ReferenceIdeal.Facts] [hPre_real_queries_and_keys : Cert.Pre_real_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_real_queries_and_keys : Cert.Pre_real_queries_and_keys.Facts),
    quiescent_Kernel (hKernel := hKernel)
    ∧ quiescent_KernelIdeal (hKernelIdeal := hKernelIdeal)
    ∧ quiescent_KernelIdeal_pre_real_queries_and_keys (hKernelIdeal := hKernelIdeal) (hPre_real_queries_and_keys := hPre_real_queries_and_keys)
    ∧ quiescent_ReferenceIdeal (hReferenceIdeal := hReferenceIdeal)
    ∧ quiescent_ReferenceIdeal_pre_real_queries_and_keys (hReferenceIdeal := hReferenceIdeal) (hPre_real_queries_and_keys := hPre_real_queries_and_keys)
    ∧ preserves_Kernel_KernelIdeal
    ∧ algebraic_KernelIdeal_ReferenceIdeal_pre_real_queries_and_keys (hKernelIdeal := hKernelIdeal) (hReferenceIdeal := hReferenceIdeal) (hPre_real_queries_and_keys := hPre_real_queries_and_keys)
-- ==== Pre_real_queries_and_keys.lean ====
abbrev S8x256x64x64 : Shape := ⟨4, ![8, 256, 64, 64]⟩
abbrev S32x256x3x3 : Shape := ⟨4, ![32, 256, 3, 3]⟩
abbrev S32 : Shape := ⟨1, ![32]⟩
abbrev S256x256x3x3 : Shape := ⟨4, ![256, 256, 3, 3]⟩
abbrev S256 : Shape := ⟨1, ![256]⟩
abbrev S1x256x3x3 : Shape := ⟨4, ![1, 256, 3, 3]⟩
abbrev S256x512x3x3 : Shape := ⟨4, ![256, 512, 3, 3]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S32x256x3x3 : S_.BroadcastsInDim S32x256x3x3 (![] : Fin 0 → Fin S32x256x3x3.rank)
  reducesTo_S32x256x3x3_S_d0_1_2_3 : S32x256x3x3.ReducesTo [0, 1, 2, 3] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S32x256x3x3 1) : IVec S_ 1 :=
  let main_c_5 : IVec S_ 1 := constantI S_ 1 1#1
  let main_v17 : IVec S_ 1 := (fun x v => Host.reduce IntOp.andi x v reducesTo_S32x256x3x3_S_d0_1_2_3 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S8x256x64x64 .f32) (main_arg1 : FVec F S8x256x64x64 .f32) (main_arg2 : FVec F S32x256x3x3 .f32) (main_arg3 : FVec F S32 .f32) (main_arg4 : FVec F S32x256x3x3 .f32) (main_arg5 : FVec F S32 .f32) (main_arg6 : FVec F S256x256x3x3 .f32) (main_arg7 : FVec F S256 .f32) (main_arg8 : FVec F S1x256x3x3 .f32) (main_arg9 : FVec F S256x512x3x3 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S32x256x3x3 .f32 := Host.absf main_arg2
  let main_cst_0 : FVec F S_ .f32 := constant S_ .f32 0x7F800000#32
  let main_v5 : FVec F S32x256x3x3 .f32 := broadcastInDim S32x256x3x3 ![] bcast_S_S32x256x3x3 main_cst_0
  let main_v6 : IVec S32x256x3x3 1 := cmpf .olt main_v4 main_v5
  let main_c_1 : IVec S_ 1 := constantI S_ 1 1#1
  let main_v7 : IVec S_ 1 := (fun x v => Host.reduce IntOp.andi x v reducesTo_S32x256x3x3_S_d0_1_2_3 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x256x3x3 .f32 := Host.absf main_arg4
  let main_cst_4 : FVec F S_ .f32 := constant S_ .f32 0x7F800000#32
  let main_v15 : FVec F S32x256x3x3 .f32 := broadcastInDim S32x256x3x3 ![] bcast_S_S32x256x3x3 main_cst_4
  let main_v16 : IVec S32x256x3x3 1 := cmpf .olt main_v14 main_v15
  fn_part1 (F := F) main_arg5 main_v13 main_v16
-- ==== Kernel.lean ====
abbrev S8x256x64x64 : Shape := ⟨4, ![8, 256, 64, 64]⟩
abbrev S32x256x3x3 : Shape := ⟨4, ![32, 256, 3, 3]⟩
abbrev S32 : Shape := ⟨1, ![32]⟩
abbrev S256x256x3x3 : Shape := ⟨4, ![256, 256, 3, 3]⟩
abbrev S256 : Shape := ⟨1, ![256]⟩
abbrev S1x256x3x3 : Shape := ⟨4, ![1, 256, 3, 3]⟩
abbrev S256x512x3x3 : Shape := ⟨4, ![256, 512, 3, 3]⟩
abbrev S8x256x4096 : Shape := ⟨3, ![8, 256, 4096]⟩
abbrev S320x256x3x3 : Shape := ⟨4, ![320, 256, 3, 3]⟩
abbrev S3x3x320x256 : Shape := ⟨4, ![3, 3, 320, 256]⟩
abbrev S9x320x256 : Shape := ⟨3, ![9, 320, 256]⟩
abbrev S320 : Shape := ⟨1, ![320]⟩
abbrev S320x1 : Shape := ⟨2, ![320, 1]⟩
abbrev S_ : Shape := ⟨0, ![]⟩
abbrev S8x256x3x3 : Shape := ⟨4, ![8, 256, 3, 3]⟩
abbrev S3x3x8x256 : Shape := ⟨4, ![3, 3, 8, 256]⟩
abbrev S9x8x256 : Shape := ⟨3, ![9, 8, 256]⟩
abbrev S3x3x256x512 : Shape := ⟨4, ![3, 3, 256, 512]⟩
abbrev S9x256x512 : Shape := ⟨3, ![9, 256, 512]⟩
abbrev S1x256x4096 : Shape := ⟨3, ![1, 256, 4096]⟩
abbrev S512x4352 : Shape := ⟨2, ![512, 4352]⟩
abbrev S320x4096 : Shape := ⟨2, ![320, 4096]⟩
abbrev S8x4096 : Shape := ⟨2, ![8, 4096]⟩
abbrev S4096x8 : Shape := ⟨2, ![4096, 8]⟩
abbrev S512x128 : Shape := ⟨2, ![512, 128]⟩
abbrev S1x4096 : Shape := ⟨2, ![1, 4096]⟩
abbrev S256x4096 : Shape := ⟨2, ![256, 4096]⟩
abbrev S1x8x256 : Shape := ⟨3, ![1, 8, 256]⟩
abbrev S8x256 : Shape := ⟨2, ![8, 256]⟩
abbrev S4096x1 : Shape := ⟨2, ![4096, 1]⟩
abbrev S1x320x256 : Shape := ⟨3, ![1, 320, 256]⟩
abbrev S320x256 : Shape := ⟨2, ![320, 256]⟩
abbrev S32x256 : Shape := ⟨2, ![32, 256]⟩
abbrev S32x4096 : Shape := ⟨2, ![32, 4096]⟩
abbrev S256x1 : Shape := ⟨2, ![256, 1]⟩
abbrev S256x256 : Shape := ⟨2, ![256, 256]⟩
abbrev S1x256 : Shape := ⟨2, ![1, 256]⟩
abbrev S1x256x512 : Shape := ⟨3, ![1, 256, 512]⟩
abbrev S256x512 : Shape := ⟨2, ![256, 512]⟩
abbrev S512x4096 : Shape := ⟨2, ![512, 4096]⟩

abbrev nBuf : Space → Nat
  | .hbm => 29
  | .vmem => 14
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S32x256x3x3, .f32⟩
  | .hbm, ⟨3, _⟩ => ⟨S32, .f32⟩
  | .hbm, ⟨4, _⟩ => ⟨S32x256x3x3, .f32⟩
  | .hbm, ⟨5, _⟩ => ⟨S32, .f32⟩
  | .hbm, ⟨6, _⟩ => ⟨S256x256x3x3, .f32⟩
  | .hbm, ⟨7, _⟩ => ⟨S256, .f32⟩
  | .hbm, ⟨8, _⟩ => ⟨S1x256x3x3, .f32⟩
  | .hbm, ⟨9, _⟩ => ⟨S256x512x3x3, .f32⟩
  | .hbm, ⟨10, _⟩ => ⟨S8x256x4096, .f32⟩
  | .hbm, ⟨11, _⟩ => ⟨S8x256x4096, .f32⟩
  | .hbm, ⟨12, _⟩ => ⟨S320x256x3x3, .f32⟩
  | .hbm, ⟨13, _⟩ => ⟨S3x3x320x256, .f32⟩
  | .hbm, ⟨14, _⟩ => ⟨S9x320x256, .f32⟩
  | .hbm, ⟨15, _⟩ => ⟨S9x320x256, .bf16⟩
  | .hbm, ⟨16, _⟩ => ⟨S320, .f32⟩
  | .hbm, ⟨17, _⟩ => ⟨S320x1, .f32⟩
  | .hbm, ⟨18, _⟩ => ⟨S_, .i32⟩
  | .hbm, ⟨19, _⟩ => ⟨S_, .f32⟩
  | .hbm, ⟨20, _⟩ => ⟨S8x256x3x3, .f32⟩
  | .hbm, ⟨21, _⟩ => ⟨S3x3x8x256, .f32⟩
  | .hbm, ⟨22, _⟩ => ⟨S9x8x256, .f32⟩
  | .hbm, ⟨23, _⟩ => ⟨S9x8x256, .bf16⟩
  | .hbm, ⟨24, _⟩ => ⟨S3x3x256x512, .f32⟩
  | .hbm, ⟨25, _⟩ => ⟨S9x256x512, .f32⟩
  | .hbm, ⟨26, _⟩ => ⟨S9x256x512, .bf16⟩
  | .hbm, ⟨27, _⟩ => ⟨S8x256x4096, .f32⟩
  | .hbm, ⟨28, _⟩ => ⟨S8x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S9x320x256, .bf16⟩
  | .local _ .vmem, ⟨5, _⟩ => ⟨S320x1, .f32⟩
  | .local _ .vmem, ⟨6, _⟩ => ⟨S9x8x256, .bf16⟩
  | .local _ .vmem, ⟨7, _⟩ => ⟨S9x256x512, .bf16⟩
  | .local _ .vmem, ⟨8, _⟩ => ⟨S1x256x4096, .f32⟩
  | .local _ .vmem, ⟨9, _⟩ => ⟨S1x256x4096, .f32⟩
  | .local _ .vmem, ⟨10, _⟩ => ⟨S512x4352, .bf16⟩
  | .local _ .vmem, ⟨11, _⟩ => ⟨S320x4096, .bf16⟩
  | .local _ .vmem, ⟨12, _⟩ => ⟨S8x4096, .f32⟩
  | .local _ .vmem, ⟨13, _⟩ => ⟨S4096x8, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x320x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x8x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x256x64x64 : Shape := ⟨4, ![8, 256, 64, 64]⟩
abbrev S32x256x3x3 : Shape := ⟨4, ![32, 256, 3, 3]⟩
abbrev S32 : Shape := ⟨1, ![32]⟩
abbrev S256x256x3x3 : Shape := ⟨4, ![256, 256, 3, 3]⟩
abbrev S256 : Shape := ⟨1, ![256]⟩
abbrev S1x256x3x3 : Shape := ⟨4, ![1, 256, 3, 3]⟩
abbrev S256x512x3x3 : Shape := ⟨4, ![256, 512, 3, 3]⟩
abbrev S_ : Shape := ⟨0, ![]⟩
abbrev S8x256x66x66 : Shape := ⟨4, ![8, 256, 66, 66]⟩
abbrev S32x256x1x1 : Shape := ⟨4, ![32, 256, 1, 1]⟩
abbrev S32x256 : Shape := ⟨2, ![32, 256]⟩
abbrev S8x64x64x32 : Shape := ⟨4, ![8, 64, 64, 32]⟩
abbrev S8x32x64x64 : Shape := ⟨4, ![8, 32, 64, 64]⟩
abbrev S1x32x1x1 : Shape := ⟨4, ![1, 32, 1, 1]⟩
abbrev S8x32x4096 : Shape := ⟨3, ![8, 32, 4096]⟩
abbrev S8x4096x32 : Shape := ⟨3, ![8, 4096, 32]⟩
abbrev S256x256x1x1 : Shape := ⟨4, ![256, 256, 1, 1]⟩
abbrev S256x256 : Shape := ⟨2, ![256, 256]⟩
abbrev S8x64x64x256 : Shape := ⟨4, ![8, 64, 64, 256]⟩
abbrev S1x256x1x1 : Shape := ⟨4, ![1, 256, 1, 1]⟩
abbrev S8x256x4096 : Shape := ⟨3, ![8, 256, 4096]⟩
abbrev S1x256 : Shape := ⟨2, ![1, 256]⟩
abbrev S8x64x64x1 : Shape := ⟨4, ![8, 64, 64, 1]⟩
abbrev S8x1x64x64 : Shape := ⟨4, ![8, 1, 64, 64]⟩
abbrev S8x1x4096 : Shape := ⟨3, ![8, 1, 4096]⟩
abbrev S8x4096x1 : Shape := ⟨3, ![8, 4096, 1]⟩
abbrev S8x4096x4096 : Shape := ⟨3, ![8, 4096, 4096]⟩
abbrev S8x4096 : Shape := ⟨2, ![8, 4096]⟩
abbrev S8x512x64x64 : Shape := ⟨4, ![8, 512, 64, 64]⟩
abbrev S8x512x66x66 : Shape := ⟨4, ![8, 512, 66, 66]⟩
abbrev S256x512x1x1 : Shape := ⟨4, ![256, 512, 1, 1]⟩
abbrev S256x512 : Shape := ⟨2, ![256, 512]⟩

abbrev nBuf : Space → Nat
  | .hbm => 338
  | .vmem => 0
  | .smem => 0
  | _ => 0

abbrev hbmTy0_0 (i : Nat) : BufTy := match i % 128 with
  | 0 => ⟨S8x256x64x64, .f32⟩
  | 1 => ⟨S8x256x64x64, .f32⟩
  | 2 => ⟨S32x256x3x3, .f32⟩
  | 3 => ⟨S32, .f32⟩
  | 4 => ⟨S32x256x3x3, .f32⟩
  | 5 => ⟨S32, .f32⟩
  | 6 => ⟨S256x256x3x3, .f32⟩
  | 7 => ⟨S256, .f32⟩
  | 8 => ⟨S1x256x3x3, .f32⟩
  | 9 => ⟨S256x512x3x3, .f32⟩
  | 10 => ⟨S_, .i32⟩
  | 11 => ⟨S_, .f32⟩
  | 12 => ⟨S8x256x66x66, .f32⟩
  | 13 => ⟨S32x256x1x1, .f32⟩
  | 14 => ⟨S32x256, .f32⟩
  | 15 => ⟨S8x256x64x64, .f32⟩
  | 16 => ⟨S8x64x64x32, .f32⟩
  | 17 => ⟨S8x32x64x64, .f32⟩
  | 18 => ⟨S32x256x1x1, .f32⟩
  | 19 => ⟨S32x256, .f32⟩
  | 20 => ⟨S8x256x64x64, .f32⟩
  | 21 => ⟨S8x64x64x32, .f32⟩
  | 22 => ⟨S8x32x64x64, .f32⟩
  | 23 => ⟨S8x32x64x64, .f32⟩
  | 24 => ⟨S32x256x1x1, .f32⟩
  | 25 => ⟨S32x256, .f32⟩
  | 26 => ⟨S8x256x64x64, .f32⟩
  | 27 => ⟨S8x64x64x32, .f32⟩
  | 28 => ⟨S8x32x64x64, .f32⟩
  | 29 => ⟨S8x32x64x64, .f32⟩
  | 30 => ⟨S32x256x1x1, .f32⟩
  | 31 => ⟨S32x256, .f32⟩
  | 32 => ⟨S8x256x64x64, .f32⟩
  | 33 => ⟨S8x64x64x32, .f32⟩
  | 34 => ⟨S8x32x64x64, .f32⟩
  | 35 => ⟨S8x32x64x64, .f32⟩
  | 36 => ⟨S32x256x1x1, .f32⟩
  | 37 => ⟨S32x256, .f32⟩
  | 38 => ⟨S8x256x64x64, .f32⟩
  | 39 => ⟨S8x64x64x32, .f32⟩
  | 40 => ⟨S8x32x64x64, .f32⟩
  | 41 => ⟨S8x32x64x64, .f32⟩
  | 42 => ⟨S32x256x1x1, .f32⟩
  | 43 => ⟨S32x256, .f32⟩
  | 44 => ⟨S8x256x64x64, .f32⟩
  | 45 => ⟨S8x64x64x32, .f32⟩
  | 46 => ⟨S8x32x64x64, .f32⟩
  | 47 => ⟨S8x32x64x64, .f32⟩
  | 48 => ⟨S32x256x1x1, .f32⟩
  | 49 => ⟨S32x256, .f32⟩
  | 50 => ⟨S8x256x64x64, .f32⟩
  | 51 => ⟨S8x64x64x32, .f32⟩
  | 52 => ⟨S8x32x64x64, .f32⟩
  | 53 => ⟨S8x32x64x64, .f32⟩
  | 54 => ⟨S32x256x1x1, .f32⟩
  | 55 => ⟨S32x256, .f32⟩
  | 56 => ⟨S8x256x64x64, .f32⟩
  | 57 => ⟨S8x64x64x32, .f32⟩
  | 58 => ⟨S8x32x64x64, .f32⟩
  | 59 => ⟨S8x32x64x64, .f32⟩
  | 60 => ⟨S32x256x1x1, .f32⟩
  | 61 => ⟨S32x256, .f32⟩
  | 62 => ⟨S8x256x64x64, .f32⟩
  | 63 => ⟨S8x64x64x32, .f32⟩
  | 64 => ⟨S8x32x64x64, .f32⟩
  | 65 => ⟨S8x32x64x64, .f32⟩
  | 66 => ⟨S1x32x1x1, .f32⟩
  | 67 => ⟨S8x32x64x64, .f32⟩
  | 68 => ⟨S8x32x64x64, .f32⟩
  | 69 => ⟨S8x32x4096, .f32⟩
  | 70 => ⟨S8x4096x32, .f32⟩
  | 71 => ⟨S_, .i32⟩
  | 72 => ⟨S_, .f32⟩
  | 73 => ⟨S8x256x66x66, .f32⟩
  | 74 => ⟨S32x256x1x1, .f32⟩
  | 75 => ⟨S32x256, .f32⟩
  | 76 => ⟨S8x256x64x64, .f32⟩
  | 77 => ⟨S8x64x64x32, .f32⟩
  | 78 => ⟨S8x32x64x64, .f32⟩
  | 79 => ⟨S32x256x1x1, .f32⟩
  | 80 => ⟨S32x256, .f32⟩
  | 81 => ⟨S8x256x64x64, .f32⟩
  | 82 => ⟨S8x64x64x32, .f32⟩
  | 83 => ⟨S8x32x64x64, .f32⟩
  | 84 => ⟨S8x32x64x64, .f32⟩
  | 85 => ⟨S32x256x1x1, .f32⟩
  | 86 => ⟨S32x256, .f32⟩
  | 87 => ⟨S8x256x64x64, .f32⟩
  | 88 => ⟨S8x64x64x32, .f32⟩
  | 89 => ⟨S8x32x64x64, .f32⟩
  | 90 => ⟨S8x32x64x64, .f32⟩
  | 91 => ⟨S32x256x1x1, .f32⟩
  | 92 => ⟨S32x256, .f32⟩
  | 93 => ⟨S8x256x64x64, .f32⟩
  | 94 => ⟨S8x64x64x32, .f32⟩
  | 95 => ⟨S8x32x64x64, .f32⟩
  | 96 => ⟨S8x32x64x64, .f32⟩
  | 97 => ⟨S32x256x1x1, .f32⟩
  | 98 => ⟨S32x256, .f32⟩
  | 99 => ⟨S8x256x64x64, .f32⟩
  | 100 => ⟨S8x64x64x32, .f32⟩
  | 101 => ⟨S8x32x64x64, .f32⟩
  | 102 => ⟨S8x32x64x64, .f32⟩
  | 103 => ⟨S32x256x1x1, .f32⟩
  | 104 => ⟨S32x256, .f32⟩
  | 105 => ⟨S8x256x64x64, .f32⟩
  | 106 => ⟨S8x64x64x32, .f32⟩
  | 107 => ⟨S8x32x64x64, .f32⟩
  | 108 => ⟨S8x32x64x64, .f32⟩
  | 109 => ⟨S32x256x1x1, .f32⟩
  | 110 => ⟨S32x256, .f32⟩
  | 111 => ⟨S8x256x64x64, .f32⟩
  | 112 => ⟨S8x64x64x32, .f32⟩
  | 113 => ⟨S8x32x64x64, .f32⟩
  | 114 => ⟨S8x32x64x64, .f32⟩
  | 115 => ⟨S32x256x1x1, .f32⟩
  | 116 => ⟨S32x256, .f32⟩
  | 117 => ⟨S8x256x64x64, .f32⟩
  | 118 => ⟨S8x64x64x32, .f32⟩
  | 119 => ⟨S8x32x64x64, .f32⟩
  | 120 => ⟨S8x32x64x64, .f32⟩
  | 121 => ⟨S32x256x1x1, .f32⟩
  | 122 => ⟨S32x256, .f32⟩
  | 123 => ⟨S8x256x64x64, .f32⟩
  | 124 => ⟨S8x64x64x32, .f32⟩
  | 125 => ⟨S8x32x64x64, .f32⟩
  | 126 => ⟨S8x32x64x64, .f32⟩
  | 127 => ⟨S1x32x1x1, .f32⟩
  | _ => ⟨S8x256x64x64, .f32⟩

abbrev hbmTy0_1 (i : Nat) : BufTy := match i % 128 with
  | 0 => ⟨S8x32x64x64, .f32⟩
  | 1 => ⟨S8x32x64x64, .f32⟩
  | 2 => ⟨S8x32x4096, .f32⟩
  | 3 => ⟨S_, .i32⟩
  | 4 => ⟨S_, .f32⟩
  | 5 => ⟨S8x256x66x66, .f32⟩
  | 6 => ⟨S256x256x1x1, .f32⟩
  | 7 => ⟨S256x256, .f32⟩
  | 8 => ⟨S8x256x64x64, .f32⟩
  | 9 => ⟨S8x64x64x256, .f32⟩
  | 10 => ⟨S8x256x64x64, .f32⟩
  | 11 => ⟨S256x256x1x1, .f32⟩
  | 12 => ⟨S256x256, .f32⟩
  | 13 => ⟨S8x256x64x64, .f32⟩
  | 14 => ⟨S8x64x64x256, .f32⟩
  | 15 => ⟨S8x256x64x64, .f32⟩
  | 16 => ⟨S8x256x64x64, .f32⟩
  | 17 => ⟨S256x256x1x1, .f32⟩
  | 18 => ⟨S256x256, .f32⟩
  | 19 => ⟨S8x256x64x64, .f32⟩
  | 20 => ⟨S8x64x64x256, .f32⟩
  | 21 => ⟨S8x256x64x64, .f32⟩
  | 22 => ⟨S8x256x64x64, .f32⟩
  | 23 => ⟨S256x256x1x1, .f32⟩
  | 24 => ⟨S256x256, .f32⟩
  | 25 => ⟨S8x256x64x64, .f32⟩
  | 26 => ⟨S8x64x64x256, .f32⟩
  | 27 => ⟨S8x256x64x64, .f32⟩
  | 28 => ⟨S8x256x64x64, .f32⟩
  | 29 => ⟨S256x256x1x1, .f32⟩
  | 30 => ⟨S256x256, .f32⟩
  | 31 => ⟨S8x256x64x64, .f32⟩
  | 32 => ⟨S8x64x64x256, .f32⟩
  | 33 => ⟨S8x256x64x64, .f32⟩
  | 34 => ⟨S8x256x64x64, .f32⟩
  | 35 => ⟨S256x256x1x1, .f32⟩
  | 36 => ⟨S256x256, .f32⟩
  | 37 => ⟨S8x256x64x64, .f32⟩
  | 38 => ⟨S8x64x64x256, .f32⟩
  | 39 => ⟨S8x256x64x64, .f32⟩
  | 40 => ⟨S8x256x64x64, .f32⟩
  | 41 => ⟨S256x256x1x1, .f32⟩
  | 42 => ⟨S256x256, .f32⟩
  | 43 => ⟨S8x256x64x64, .f32⟩
  | 44 => ⟨S8x64x64x256, .f32⟩
  | 45 => ⟨S8x256x64x64, .f32⟩
  | 46 => ⟨S8x256x64x64, .f32⟩
  | 47 => ⟨S256x256x1x1, .f32⟩
  | 48 => ⟨S256x256, .f32⟩
  | 49 => ⟨S8x256x64x64, .f32⟩
  | 50 => ⟨S8x64x64x256, .f32⟩
  | 51 => ⟨S8x256x64x64, .f32⟩
  | 52 => ⟨S8x256x64x64, .f32⟩
  | 53 => ⟨S256x256x1x1, .f32⟩
  | 54 => ⟨S256x256, .f32⟩
  | 55 => ⟨S8x256x64x64, .f32⟩
  | 56 => ⟨S8x64x64x256, .f32⟩
  | 57 => ⟨S8x256x64x64, .f32⟩
  | 58 => ⟨S8x256x64x64, .f32⟩
  | 59 => ⟨S1x256x1x1, .f32⟩
  | 60 => ⟨S8x256x64x64, .f32⟩
  | 61 => ⟨S8x256x64x64, .f32⟩
  | 62 => ⟨S8x256x4096, .f32⟩
  | 63 => ⟨S_, .i32⟩
  | 64 => ⟨S_, .f32⟩
  | 65 => ⟨S8x256x66x66, .f32⟩
  | 66 => ⟨S1x256x1x1, .f32⟩
  | 67 => ⟨S1x256, .f32⟩
  | 68 => ⟨S8x256x64x64, .f32⟩
  | 69 => ⟨S8x64x64x1, .f32⟩
  | 70 => ⟨S8x1x64x64, .f32⟩
  | 71 => ⟨S1x256x1x1, .f32⟩
  | 72 => ⟨S1x256, .f32⟩
  | 73 => ⟨S8x256x64x64, .f32⟩
  | 74 => ⟨S8x64x64x1, .f32⟩
  | 75 => ⟨S8x1x64x64, .f32⟩
  | 76 => ⟨S8x1x64x64, .f32⟩
  | 77 => ⟨S1x256x1x1, .f32⟩
  | 78 => ⟨S1x256, .f32⟩
  | 79 => ⟨S8x256x64x64, .f32⟩
  | 80 => ⟨S8x64x64x1, .f32⟩
  | 81 => ⟨S8x1x64x64, .f32⟩
  | 82 => ⟨S8x1x64x64, .f32⟩
  | 83 => ⟨S1x256x1x1, .f32⟩
  | 84 => ⟨S1x256, .f32⟩
  | 85 => ⟨S8x256x64x64, .f32⟩
  | 86 => ⟨S8x64x64x1, .f32⟩
  | 87 => ⟨S8x1x64x64, .f32⟩
  | 88 => ⟨S8x1x64x64, .f32⟩
  | 89 => ⟨S1x256x1x1, .f32⟩
  | 90 => ⟨S1x256, .f32⟩
  | 91 => ⟨S8x256x64x64, .f32⟩
  | 92 => ⟨S8x64x64x1, .f32⟩
  | 93 => ⟨S8x1x64x64, .f32⟩
  | 94 => ⟨S8x1x64x64, .f32⟩
  | 95 => ⟨S1x256x1x1, .f32⟩
  | 96 => ⟨S1x256, .f32⟩
  | 97 => ⟨S8x256x64x64, .f32⟩
  | 98 => ⟨S8x64x64x1, .f32⟩
  | 99 => ⟨S8x1x64x64, .f32⟩
  | 100 => ⟨S8x1x64x64, .f32⟩
  | 101 => ⟨S1x256x1x1, .f32⟩
  | 102 => ⟨S1x256, .f32⟩
  | 103 => ⟨S8x256x64x64, .f32⟩
  | 104 => ⟨S8x64x64x1, .f32⟩
  | 105 => ⟨S8x1x64x64, .f32⟩
  | 106 => ⟨S8x1x64x64, .f32⟩
  | 107 => ⟨S1x256x1x1, .f32⟩
  | 108 => ⟨S1x256, .f32⟩
  | 109 => ⟨S8x256x64x64, .f32⟩
  | 110 => ⟨S8x64x64x1, .f32⟩
  | 111 => ⟨S8x1x64x64, .f32⟩
  | 112 => ⟨S8x1x64x64, .f32⟩
  | 113 => ⟨S1x256x1x1, .f32⟩
  | 114 => ⟨S1x256, .f32⟩
  | 115 => ⟨S8x256x64x64, .f32⟩
  | 116 => ⟨S8x64x64x1, .f32⟩
  | 117 => ⟨S8x1x64x64, .f32⟩
  | 118 => ⟨S8x1x64x64, .f32⟩
  | 119 => ⟨S_, .f32⟩
  | 120 => ⟨S_, .f32⟩
  | 121 => ⟨S_, .f32⟩
  | 122 => ⟨S8x1x64x64, .f32⟩
  | 123 => ⟨S8x1x64x64, .f32⟩
  | 124 => ⟨S_, .f32⟩
  | 125 => ⟨S8x1x64x64, .f32⟩
  | 126 => ⟨S8x1x64x64, .f32⟩
  | 127 => ⟨S8x1x4096, .f32⟩
  | _ => ⟨S8x256x64x64, .f32⟩

abbrev hbmTy0_2 (i : Nat) : BufTy := match i % 128 with
  | 0 => ⟨S_, .f32⟩
  | 1 => ⟨S8x1x64x64, .f32⟩
  | 2 => ⟨S8x1x64x64, .f32⟩
  | 3 => ⟨S8x4096x1, .f32⟩
  | 4 => ⟨S8x4096x4096, .f32⟩
  | 5 => ⟨S8x4096x4096, .f32⟩
  | 6 => ⟨S8x4096x4096, .f32⟩
  | 7 => ⟨S8x4096x4096, .f32⟩
  | 8 => ⟨S8x4096x4096, .f32⟩
  | 9 => ⟨S_, .f32⟩
  | 10 => ⟨S8x4096, .f32⟩
  | 11 => ⟨S_, .f32⟩
  | 12 => ⟨S8x4096, .f32⟩
  | 13 => ⟨S8x4096, .f32⟩
  | 14 => ⟨S8x4096x1, .f32⟩
  | 15 => ⟨S8x4096x4096, .f32⟩
  | 16 => ⟨S8x4096x4096, .f32⟩
  | 17 => ⟨S8x4096x4096, .f32⟩
  | 18 => ⟨S_, .f32⟩
  | 19 => ⟨S8x4096, .f32⟩
  | 20 => ⟨S8x4096x1, .f32⟩
  | 21 => ⟨S8x4096x4096, .f32⟩
  | 22 => ⟨S8x4096x4096, .f32⟩
  | 23 => ⟨S8x256x4096, .f32⟩
  | 24 => ⟨S8x256x64x64, .f32⟩
  | 25 => ⟨S8x512x64x64, .f32⟩
  | 26 => ⟨S_, .i32⟩
  | 27 => ⟨S_, .f32⟩
  | 28 => ⟨S8x512x66x66, .f32⟩
  | 29 => ⟨S256x512x1x1, .f32⟩
  | 30 => ⟨S256x512, .f32⟩
  | 31 => ⟨S8x512x64x64, .f32⟩
  | 32 => ⟨S8x64x64x256, .f32⟩
  | 33 => ⟨S8x256x64x64, .f32⟩
  | 34 => ⟨S256x512x1x1, .f32⟩
  | 35 => ⟨S256x512, .f32⟩
  | 36 => ⟨S8x512x64x64, .f32⟩
  | 37 => ⟨S8x64x64x256, .f32⟩
  | 38 => ⟨S8x256x64x64, .f32⟩
  | 39 => ⟨S8x256x64x64, .f32⟩
  | 40 => ⟨S256x512x1x1, .f32⟩
  | 41 => ⟨S256x512, .f32⟩
  | 42 => ⟨S8x512x64x64, .f32⟩
  | 43 => ⟨S8x64x64x256, .f32⟩
  | 44 => ⟨S8x256x64x64, .f32⟩
  | 45 => ⟨S8x256x64x64, .f32⟩
  | 46 => ⟨S256x512x1x1, .f32⟩
  | 47 => ⟨S256x512, .f32⟩
  | 48 => ⟨S8x512x64x64, .f32⟩
  | 49 => ⟨S8x64x64x256, .f32⟩
  | 50 => ⟨S8x256x64x64, .f32⟩
  | 51 => ⟨S8x256x64x64, .f32⟩
  | 52 => ⟨S256x512x1x1, .f32⟩
  | 53 => ⟨S256x512, .f32⟩
  | 54 => ⟨S8x512x64x64, .f32⟩
  | 55 => ⟨S8x64x64x256, .f32⟩
  | 56 => ⟨S8x256x64x64, .f32⟩
  | 57 => ⟨S8x256x64x64, .f32⟩
  | 58 => ⟨S256x512x1x1, .f32⟩
  | 59 => ⟨S256x512, .f32⟩
  | 60 => ⟨S8x512x64x64, .f32⟩
  | 61 => ⟨S8x64x64x256, .f32⟩
  | 62 => ⟨S8x256x64x64, .f32⟩
  | 63 => ⟨S8x256x64x64, .f32⟩
  | 64 => ⟨S256x512x1x1, .f32⟩
  | 65 => ⟨S256x512, .f32⟩
  | 66 => ⟨S8x512x64x64, .f32⟩
  | 67 => ⟨S8x64x64x256, .f32⟩
  | 68 => ⟨S8x256x64x64, .f32⟩
  | 69 => ⟨S8x256x64x64, .f32⟩
  | 70 => ⟨S256x512x1x1, .f32⟩
  | 71 => ⟨S256x512, .f32⟩
  | 72 => ⟨S8x512x64x64, .f32⟩
  | 73 => ⟨S8x64x64x256, .f32⟩
  | 74 => ⟨S8x256x64x64, .f32⟩
  | 75 => ⟨S8x256x64x64, .f32⟩
  | 76 => ⟨S256x512x1x1, .f32⟩
  | 77 => ⟨S256x512, .f32⟩
  | 78 => ⟨S8x512x64x64, .f32⟩
  | 79 => ⟨S8x64x64x256, .f32⟩
  | 80 => ⟨S8x256x64x64, .f32⟩
  | 81 => ⟨S8x256x64x64, .f32⟩
  | _ => ⟨S8x256x64x64, .f32⟩

abbrev hbmTy (i : Nat) : BufTy := match i / 128 with
  | 0 => hbmTy0_0 i
  | 1 => hbmTy0_1 i
  | 2 => hbmTy0_2 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_0 : Ref sig .tc := ⟨.hbm, 71, rfl⟩
abbrev main_call1_v0 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_c_1 : Ref sig .tc := ⟨.hbm, 131, rfl⟩
abbrev main_call2_v0 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_c_2 : Ref sig .tc := ⟨.hbm, 191, rfl⟩
abbrev main_call3_v0 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_cst : Ref sig .tc := ⟨.hbm, 247, rfl⟩
abbrev main_cst_3 : Ref sig .tc := ⟨.hbm, 248, rfl⟩
abbrev main_call4_v0 : Ref sig .tc := ⟨.hbm, 249, rfl⟩
abbrev main_call4_v1 : Ref sig .tc := ⟨.hbm, 250, rfl⟩
abbrev main_call4_v2 : Ref sig .tc := ⟨.hbm, 251, rfl⟩
abbrev main_call4_v3 : Ref sig .tc := ⟨.hbm, 252, rfl⟩
abbrev main_call4_v4 : Ref sig .tc := ⟨.hbm, 253, rfl⟩
abbrev main_v229 : Ref sig .tc := ⟨.hbm, 254, rfl⟩
abbrev main_v230 : Ref sig .tc := ⟨.hbm, 255, rfl⟩
abbrev main_cst_4 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_cst_5 : Ref sig .tc := ⟨.hbm, 265, rfl⟩
abbrev main_v239 : Ref sig .tc := ⟨.hbm, 266, rfl⟩
abbrev main_cst_6 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_cst_7 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_c_8 : Ref sig .tc := ⟨.hbm, 282, rfl⟩
abbrev main_call5_v0 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩

abbrev nD : Nat := 1
abbrev τ : Topo := Topo.v7x

variable {F : FTy → Type} [FloatOps F]
-- ==== Proof.Taps.lean ====
/- The 3×3 convolution of a flattened 64×64 image, in the two forms the programs compute it in: the reference reads a zero-padded image at nine shifts; the
   kernel reads nine windows of a slab (the flattened image between two runs of 128 zeros), adds the three rows of a column of taps and multiplies the sum by
   a 0/1 mask of the columns, which drops what a shifted window reads from the neighbouring row. The two agree at every extended real. -/
module

public import Idealize.ShloMosaic.PureOps.Ideal

@[expose] public section

noncomputable section

namespace Cert.Taps

variable {C : ℕ}

/-- The zero-padded image, read at row `r` and column `s` of its 66×66 positions. -/
def padded (X : Fin C → Fin 4096 → EReal) (c : Fin C) (r s : ℕ) : EReal :=
  if h : (1 ≤ r ∧ r ≤ 64) ∧ (1 ≤ s ∧ s ≤ 64) then X c ⟨(r - 1) * 64 + (s - 1), by omega⟩ else 0

/-- One tap: the sum over the channels of the padded image at `(r, s)`, weighted. -/
def tap (w : Fin C → EReal) (X : Fin C → Fin 4096 → EReal) (r s : ℕ) : EReal := ∑ c, w c * padded X c r s

/-- The convolution at pixel `p`: the nine taps, in the order the reference adds them. -/
def conv (W : Fin 9 → Fin C → EReal) (X : Fin C → Fin 4096 → EReal) (p : Fin 4096) : EReal :=
  tap (W 0) X (p / 64) (p % 64) + tap (W 1) X (p / 64) (p % 64 + 1) + tap (W 2) X (p / 64) (p % 64 + 2)
    + tap (W 3) X (p / 64 + 1) (p % 64) + tap (W 4) X (p / 64 + 1) (p % 64 + 1) + tap (W 5) X (p / 64 + 1) (p % 64 + 2)
    + tap (W 6) X (p / 64 + 2) (p % 64) + tap (W 7) X (p / 64 + 2) (p % 64 + 1) + tap (W 8) X (p / 64 + 2) (p % 64 + 2)

/-- The slab: the flattened image between 128 zeros in front and zeros behind. -/
def slab (X : Fin C → Fin 4096 → EReal) (c : Fin C) (q : ℕ) : EReal :=
  if h : 128 ≤ q ∧ q < 4224 then X c ⟨q - 128, by omega⟩ else 0

/-- One tap of the kernel: the sum over the channels of the slab at `q`, weighted. -/
def slabTap (w : Fin C → EReal) (X : Fin C → Fin 4096 → EReal) (q : ℕ) : EReal := ∑ c, w c * slab X c q

/-- The mask of the left column of taps: 0 at column 0 of the image, 1 elsewhere. -/
def maskL (p : ℕ) : EReal := if p % 64 = 0 then 0 else 1

/-- The mask of the right column of taps: 0 at column 63 of the image, 1 elsewhere. -/
def maskR (p : ℕ) : EReal := if p % 64 = 63 then 0 else 1

/-- The kernel's convolution at pixel `p`: three columns of taps, the outer two masked. -/
def convK (W : Fin 9 → Fin C → EReal) (X : Fin C → Fin 4096 → EReal) (p : Fin 4096) : EReal :=
  (slabTap (W 0) X (63 + p) + slabTap (W 3) X (127 + p) + slabTap (W 6) X (191 + p)) * maskL p
    + (slabTap (W 1) X (64 + p) + slabTap (W 4) X (128 + p) + slabTap (W 7) X (192 + p))
    + (slabTap (W 2) X (65 + p) + slabTap (W 5) X (129 + p) + slabTap (W 8) X (193 + p)) * maskR p

/-- Where the shifted column stays inside the image, the slab holds the padded image. -/
theorem slab_eq_padded (X : Fin C → Fin 4096 → EReal) (c : Fin C) (p : Fin 4096) (ky kx q : ℕ) (hy : ky ≤ 2) (hx : kx ≤ 2)
    (h0 : kx = 0 → (p : ℕ) % 64 ≠ 0) (h2 : kx = 2 → (p : ℕ) % 64 ≠ 63) (hq : q = 63 + 64 * ky + kx + p) :
    slab X c q = padded X c (p / 64 + ky) (p % 64 + kx) := by
  have hp := p.2
  unfold slab padded
  have hs : 1 ≤ (p : ℕ) % 64 + kx ∧ (p : ℕ) % 64 + kx ≤ 64 := by omega
  by_cases hr : 1 ≤ (p : ℕ) / 64 + ky ∧ (p : ℕ) / 64 + ky ≤ 64
  · rw [dif_pos (by omega), dif_pos ⟨hr, hs⟩]
    congr 2
    omega
  · rw [dif_neg (by omega), dif_neg (fun h => hr h.1)]

/-- The same of a whole tap. -/
theorem slabTap_eq_tap (w : Fin C → EReal) (X : Fin C → Fin 4096 → EReal) (p : Fin 4096) (ky kx q : ℕ) (hy : ky ≤ 2) (hx : kx ≤ 2)
    (h0 : kx = 0 → (p : ℕ) % 64 ≠ 0) (h2 : kx = 2 → (p : ℕ) % 64 ≠ 63) (hq : q = 63 + 64 * ky + kx + p) :
    slabTap w X q = tap w X (p / 64 + ky) (p % 64 + kx) :=
  Finset.sum_congr rfl fun c _ => by rw [slab_eq_padded X c p ky kx q hy hx h0 h2 hq]

/-- A tap read in the padding's columns is zero. -/
theorem tap_zero (w : Fin C → EReal) (X : Fin C → Fin 4096 → EReal) (r s : ℕ) (hs : s = 0 ∨ s = 65) : tap w X r s = 0 :=
  Finset.sum_eq_zero fun c _ => by rw [padded, dif_neg (by omega), mul_zero]

/-- A masked column of taps of the kernel is the column of taps of the padded image. -/
theorem column_eq (w0 w1 w2 : Fin C → EReal) (X : Fin C → Fin 4096 → EReal) (p : Fin 4096) (kx q0 q1 q2 : ℕ) (mask : EReal) (hx : kx ≤ 2)
    (hmask : mask = if (kx = 0 ∧ (p : ℕ) % 64 = 0) ∨ (kx = 2 ∧ (p : ℕ) % 64 = 63) then 0 else 1)
    (h0 : q0 = 63 + kx + p) (h1 : q1 = 127 + kx + p) (h2 : q2 = 191 + kx + p) :
    (slabTap w0 X q0 + slabTap w1 X q1 + slabTap w2 X q2) * mask
      = tap w0 X (p / 64) (p % 64 + kx) + tap w1 X (p / 64 + 1) (p % 64 + kx) + tap w2 X (p / 64 + 2) (p % 64 + kx) := by
  by_cases h : (kx = 0 ∧ (p : ℕ) % 64 = 0) ∨ (kx = 2 ∧ (p : ℕ) % 64 = 63)
  · rw [hmask, if_pos h, mul_zero, tap_zero _ _ _ _ (by omega), tap_zero _ _ _ _ (by omega), tap_zero _ _ _ _ (by omega)]
    simp
  · rw [hmask, if_neg h, mul_one,
      slabTap_eq_tap w0 X p 0 kx q0 (by omega) hx (by omega) (by omega) (by omega),
      slabTap_eq_tap w1 X p 1 kx q1 (by omega) hx (by omega) (by omega) (by omega),
      slabTap_eq_tap w2 X p 2 kx q2 (by omega) hx (by omega) (by omega) (by omega), add_zero]

/-- The kernel's convolution is the reference's, whatever the extended reals. -/
theorem convK_eq_conv (W : Fin 9 → Fin C → EReal) (X : Fin C → Fin 4096 → EReal) (p : Fin 4096) : convK W X p = conv W X p := by
  have hL := column_eq (W 0) (W 3) (W 6) X p 0 (63 + p) (127 + p) (191 + p) (maskL p) (by omega) (by unfold maskL; congr 1; simp) (by omega) (by omega) (by omega)
  have hM := column_eq (W 1) (W 4) (W 7) X p 1 (64 + p) (128 + p) (192 + p) 1 (by omega) (by simp) (by omega) (by omega) (by omega)
  have hR := column_eq (W 2) (W 5) (W 8) X p 2 (65 + p) (129 + p) (193 + p) (maskR p) (by omega) (by unfold maskR; congr 1; simp) (by omega) (by omega) (by omega)
  rw [mul_one] at hM
  unfold convK conv
  rw [hL, hM, hR]
  simp only [add_zero]
  ac_rfl

end Cert.Taps

end

end
-- ==== Proof.Images.lean ====
/- The arrays of the two programs as images and taps, and the projections both compute. -/
module

public import proofs.«01_k».proof.Proof.Taps
public import Idealize.ShloMosaic.Lib.Pointwise

@[expose] public section

noncomputable section

namespace Cert.Images

open Idealize.ShloMosaic Cert.Taps

/-- Image `b` of eight, a channel and a pixel `64 y + x` at a time. -/
def flat {C : ℕ} (x : (⟨4, ![8, C, 64, 64]⟩ : Shape).Idx → EReal) (b : Fin 8) (k : Fin C) (p : Fin 4096) : EReal :=
  x (ix4 b k (⟨p / 64, by omega⟩ : Fin 64) (⟨p % 64, by omega⟩ : Fin 64))

/-- The weights of output channel `o`, tap `3 ky + kx` at a time. -/
def weights {O C : ℕ} (w : (⟨4, ![O, C, 3, 3]⟩ : Shape).Idx → EReal) (o : Fin O) (s : Fin 9) (k : Fin C) : EReal :=
  w (ix4 o k (⟨s / 3, by omega⟩ : Fin 3) (⟨s % 3, by omega⟩ : Fin 3))

/-- A projection of an image: its convolution, and the bias. -/
def project {O : ℕ} (w : (⟨4, ![O, 256, 3, 3]⟩ : Shape).Idx → EReal) (b : (⟨1, ![O]⟩ : Shape).Idx → EReal) (X : Fin 256 → Fin 4096 → EReal) (o : Fin O) (p : Fin 4096) :
    EReal := conv (weights w o) X p + b (ix1 o)

/-- The mask of an image: its convolution, clipped to [0, 1]. -/
def mask (w : (⟨4, ![1, 256, 3, 3]⟩ : Shape).Idx → EReal) (Y : Fin 256 → Fin 4096 → EReal) (p : Fin 4096) : EReal :=
  min 1 (max 0 (conv (weights w 0) Y p))

/-- Two images stacked: the channels of the first, then those of the second. -/
def stack (X A : Fin 256 → Fin 4096 → EReal) (k : Fin 512) (p : Fin 4096) : EReal :=
  if h : k.val < 256 then X ⟨k, h⟩ p else A ⟨k - 256, by omega⟩ p

end Cert.Images

end

end
-- ==== Proof.Reference.lean ====
/- The reference's convolutions: each is nine taps of a zero-padded image, at every pixel. -/
module

public import proofs.«01_k».proof.Proof.Images
public import proofs.«01_k».proof.Proof.Gen.ReferenceIdeal.Run
public import Idealize.ShloMosaic.Lib.Pipeline.ValueKit

@[expose] public section

set_option maxRecDepth 16384

noncomputable section

namespace Cert.ReferenceIdeal.Convolutions

open Idealize.ShloMosaic Idealize.ShloMosaic.TcCoe Idealize.SL.Sem Cert.ReferenceIdeal Cert.ReferenceIdeal.Gen Cert.ReferenceIdeal.Value Cert.Taps Cert.Images
  Idealize.ShloMosaic.StableHlo

/-- The padded image of 256 channels, at an index. -/
theorem padded_at (x : FVec Ideal S8x256x64x64 .f32) (b : Fin 8) (k : Fin 256) (r s : Fin 66) :
    pad S8x256x66x66 ![0, 0, 1, 1] ![0, 0, 1, 1] ![0, 0, 0, 0] x (sitofp .f32 (constantI S_ 32 0#32)) pads_S8x256x64x64_S8x256x66x66_000_000_110_110 h_S_ (ix4 b k r s)
      = padded (flat x b) k r s := by
  pointwise [padded, flat]
  by_cases h : (1 ≤ r.val ∧ r.val ≤ 64) ∧ (1 ≤ s.val ∧ s.val ≤ 64)
  · rw [dif_pos ⟨⟨h.1.1, by omega⟩, h.2.1, by omega⟩, dif_pos h]
    congr 2 <;> exact Fin.ext (by dsimp only; omega)
  · rw [dif_neg (by omega), dif_neg h]
    simp [FloatOps.sitofp]

/-- The nine taps, in the order the reference adds them, of an array that holds a padded image. -/
theorem nine_taps {C O : ℕ} (P : (⟨4, ![8, C, 66, 66]⟩ : Shape).Idx → EReal) (w : (⟨4, ![O, C, 3, 3]⟩ : Shape).Idx → EReal) (X : Fin C → Fin 4096 → EReal)
    (b : Fin 8) (hP : ∀ k r s, P (ix4 b k r s) = padded X k r.val s.val) (o : Fin O) (y x : Fin 64) :
    (∑ k, P (ix4 b k (⟨y, by omega⟩ : Fin 66) (⟨x, by omega⟩ : Fin 66)) * w (ix4 o k 0 0)) + (∑ k, P (ix4 b k (⟨y, by omega⟩ : Fin 66) (⟨1 + x, by omega⟩ : Fin 66)) * w (ix4 o k 0 1))
        + (∑ k, P (ix4 b k (⟨y, by omega⟩ : Fin 66) (⟨2 + x, by omega⟩ : Fin 66)) * w (ix4 o k 0 2))
        + (∑ k, P (ix4 b k (⟨1 + y, by omega⟩ : Fin 66) (⟨x, by omega⟩ : Fin 66)) * w (ix4 o k 1 0))
        + (∑ k, P (ix4 b k (⟨1 + y, by omega⟩ : Fin 66) (⟨1 + x, by omega⟩ : Fin 66)) * w (ix4 o k 1 1))
        + (∑ k, P (ix4 b k (⟨1 + y, by omega⟩ : Fin 66) (⟨2 + x, by omega⟩ : Fin 66)) * w (ix4 o k 1 2))
        + (∑ k, P (ix4 b k (⟨2 + y, by omega⟩ : Fin 66) (⟨x, by omega⟩ : Fin 66)) * w (ix4 o k 2 0))
        + (∑ k, P (ix4 b k (⟨2 + y, by omega⟩ : Fin 66) (⟨1 + x, by omega⟩ : Fin 66)) * w (ix4 o k 2 1))
        + (∑ k, P (ix4 b k (⟨2 + y, by omega⟩ : Fin 66) (⟨2 + x, by omega⟩ : Fin 66)) * w (ix4 o k 2 2))
      = conv (weights w o) X (⟨64 * y + x, by omega⟩ : Fin 4096) := by
  have hy : (64 * y.val + x.val) / 64 = y.val := by omega
  have hx : (64 * y.val + x.val) % 64 = x.val := by omega
  simp only [hP, conv, tap, hy, hx, add_comm 1, add_comm 2, mul_comm (padded _ _ _ _)]
  rfl

variable (V0 : Valuation τ sig (Elt Ideal)) (b : Fin 8)

/-- The reference's queries. -/
theorem query (o : Fin 32) (y x : Fin 64) : (res_main_v56 V0 : FVec Ideal S8x32x64x64 .f32) (ix4 b o y x)
    = project (V0 (Proc.devRef .tc main_arg2)) (V0 (Proc.devRef .tc main_arg3)) (flat (V0 (Proc.devRef .tc main_arg0)) b) o (⟨64 * y + x, by omega⟩ : Fin 4096) := by
  pointwise [res_main_v56]
  exact congrArg (· + _) (nine_taps _ _ _ b (fun k r s => padded_at _ b k r s) o y x)

/-- The reference's keys. -/
theorem key (o : Fin 32) (y x : Fin 64) : (res_main_v115 V0 : FVec Ideal S8x32x64x64 .f32) (ix4 b o y x)
    = project (V0 (Proc.devRef .tc main_arg4)) (V0 (Proc.devRef .tc main_arg5)) (flat (V0 (Proc.devRef .tc main_arg0)) b) o (⟨64 * y + x, by omega⟩ : Fin 4096) := by
  pointwise [res_main_v115]
  exact congrArg (· + _) (nine_taps _ _ _ b (fun k r s => padded_at _ b k r s) o y x)

/-- The reference's values. -/
theorem value (o : Fin 256) (y x : Fin 64) : (res_main_v173 V0 : FVec Ideal S8x256x64x64 .f32) (ix4 b o y x)
    = project (V0 (Proc.devRef .tc main_arg6)) (V0 (Proc.devRef .tc main_arg7)) (flat (V0 (Proc.devRef .tc main_arg0)) b) o (⟨64 * y + x, by omega⟩ : Fin 4096) := by
  pointwise [res_main_v173]
  exact congrArg (· + _) (nine_taps _ _ _ b (fun k r s => padded_at _ b k r s) o y x)

/-- The reference's clipped mask. -/
theorem clipped (y x : Fin 64) : (res_main_v229 V0 : FVec Ideal S8x1x64x64 .f32) (ix4 b 0 y x)
    = mask (V0 (Proc.devRef .tc main_arg8)) (flat (V0 (Proc.devRef .tc main_arg1)) b) (⟨64 * y + x, by omega⟩ : Fin 4096) := by
  pointwise [res_main_v229, id]
  exact congrArg (fun z => min 1 (max 0 z)) (nine_taps _ _ _ b (fun k r s => padded_at _ b k r s) (0 : Fin 1) y x)

end Cert.ReferenceIdeal.Convolutions

end

end
-- ==== Proof.RefAttention.lean ====
/- The reference's attention, and its result, at every pixel. -/
module

public import proofs.«01_k».proof.Proof.Reference

@[expose] public section

set_option maxRecDepth 16384

noncomputable section

namespace Cert.ReferenceIdeal.Attention

open Idealize.ShloMosaic Idealize.ShloMosaic.TcCoe Idealize.SL.Sem Cert.ReferenceIdeal Cert.ReferenceIdeal.Gen Cert.ReferenceIdeal.Value Cert.Taps Cert.Images
  Idealize.ShloMosaic.StableHlo Cert.ReferenceIdeal.Convolutions

/-- Reducing the last of the three axes leaves the first two. -/
theorem reduces_last : S8x4096x4096.Reduces [2] S8x4096 := ⟨rfl, by decide, reducesTo_S8x4096x4096_S8x4096_d2.2⟩

/-- The largest energy of a row, as the reference computes it. -/
theorem row_max (e : FVec Ideal S8x4096x4096 .f32) (b : Fin 8) (n : Fin 4096) :
    Host.reduce FloatOps.maximumf e (constant S_ .f32 0xFF800000#32) reducesTo_S8x4096x4096_S8x4096_d2 h_S_ (ix2 b n)
      = Finset.univ.fold max (Ideal.ofBits .f32 0xFF800000#32) fun j : Fin 4096 => e (ix3 b n j) := by
  have h := Host.reduce_eq_fold_single (max : EReal → EReal → EReal) e (constant (F := Ideal) S_ .f32 0xFF800000#32) reducesTo_S8x4096x4096_S8x4096_d2 reduces_last h_S_ (ix2 b n)
  refine h.trans ?_
  exact congrArg (Finset.univ.fold max _) (funext fun j => congrArg e (funext fun d => by
    match d with
    | 0 => rfl
    | 1 => rfl
    | 2 => rfl))

/-- The exponentials of a row of energies, each less the row's largest. -/
theorem exp_at (e : FVec Ideal S8x4096x4096 .f32) (M : FVec Ideal S8x4096 .f32) (b : Fin 8) (n k : Fin 4096) :
    Host.exp (subf e (broadcastInDim S8x4096x4096 ![0, 1, 2] bcast_S8x4096x1_S8x4096x4096_0_1_2 (broadcastInDim S8x4096x1 ![0, 1] bcast_S8x4096_S8x4096x1_0_1
        (maximumf (broadcastInDim S8x4096 ![] bcast_S_S8x4096 (constant S_ .f32 0xFF800000#32)) M)))) (ix3 b n k)
      = Ideal.exp (e (ix3 b n k) - max ⊥ (M (ix2 b n))) := by
  have h : Ideal.ofBits .f32 0xFF800000#32 = ⊥ := by simp [Ideal.ofBits, Ideal.ieee]
  pointwise []
  rw [h]

/-- The reference's energies over the queries, keys and mask. -/
def energy (Q K : Fin 32 → Fin 4096 → EReal) (D : Fin 4096 → EReal) (n j : Fin 4096) : EReal := (∑ a, Q a n * K a j) * D j * (1 - D n)

/-- The exponential of an energy less the row's largest. -/
def weight (E : Fin 4096 → EReal) (j : Fin 4096) : EReal := Ideal.exp (E j - max ⊥ (Finset.univ.fold max ⊥ E))

/-- The reference's attention over the queries, keys, values and mask: the values weighted by the softmax of the energies. -/
def attnR (Q K : Fin 32 → Fin 4096 → EReal) (V : Fin 256 → Fin 4096 → EReal) (D : Fin 4096 → EReal) (k : Fin 256) (n : Fin 4096) : EReal :=
  ∑ j, V k j * Ideal.div (weight (energy Q K D n) j) (∑ i, weight (energy Q K D n) i)

variable (V0 : Valuation τ sig (Elt Ideal)) (b : Fin 8)

/-- The arguments' queries. -/
abbrev queries : Fin 32 → Fin 4096 → EReal :=
  project (V0 (Proc.devRef .tc main_arg2)) (V0 (Proc.devRef .tc main_arg3)) (flat (V0 (Proc.devRef .tc main_arg0)) b)

/-- The arguments' keys. -/
abbrev keys : Fin 32 → Fin 4096 → EReal :=
  project (V0 (Proc.devRef .tc main_arg4)) (V0 (Proc.devRef .tc main_arg5)) (flat (V0 (Proc.devRef .tc main_arg0)) b)

/-- The arguments' values. -/
abbrev values : Fin 256 → Fin 4096 → EReal :=
  project (V0 (Proc.devRef .tc main_arg6)) (V0 (Proc.devRef .tc main_arg7)) (flat (V0 (Proc.devRef .tc main_arg0)) b)

/-- The arguments' clipped mask. -/
abbrev masks : Fin 4096 → EReal := mask (V0 (Proc.devRef .tc main_arg8)) (flat (V0 (Proc.devRef .tc main_arg1)) b)

/-- A pixel from its row and column. -/
theorem pixel (n : Fin 4096) (h) : (⟨64 * (n.val / 64) + n.val % 64, h⟩ : Fin 4096) = n := Fin.ext (Nat.div_add_mod _ _)

/-- The reference's energies, at an index. -/
theorem energy_at (n j : Fin 4096) : (res_main_v238 V0 : FVec Ideal S8x4096x4096 .f32) (ix3 b n j)
    = energy (queries V0 b) (keys V0 b) (masks V0 b) n j := by
  pointwise [res_main_v238]
  simp only [query, key, clipped, pixel]
  rfl

/-- The exponentials of any array of energies, at an index. -/
theorem exps (e : FVec Ideal S8x4096x4096 .f32) (n j : Fin 4096) :
    Host.exp (subf e (broadcastInDim S8x4096x4096 ![0, 1, 2] bcast_S8x4096x1_S8x4096x4096_0_1_2 (broadcastInDim S8x4096x1 ![0, 1] bcast_S8x4096_S8x4096x1_0_1
        (maximumf (broadcastInDim S8x4096 ![] bcast_S_S8x4096 (constant S_ .f32 0xFF800000#32))
          (Host.reduce FloatOps.maximumf e (constant S_ .f32 0xFF800000#32) reducesTo_S8x4096x4096_S8x4096_d2 h_S_))))) (ix3 b n j)
      = weight (fun i => e (ix3 b n i)) j := by
  have h : Ideal.ofBits .f32 0xFF800000#32 = ⊥ := by simp [Ideal.ofBits, Ideal.ieee]
  rw [exp_at, row_max, h, weight]

/-- The reference's exponentials, at an index. -/
theorem weight_at (n j : Fin 4096) : (res_main_v245 V0 : FVec Ideal S8x4096x4096 .f32) (ix3 b n j)
    = weight (energy (queries V0 b) (keys V0 b) (masks V0 b) n) j :=
  (exps b (res_main_v238 V0) n j).trans (congrArg (fun E : Fin 4096 → EReal => weight E j) (funext (energy_at V0 b n)))

/-- Stacking the image on an attention inside a border of zeros. -/
theorem stack_pad (x : (⟨4, ![8, 256, 64, 64]⟩ : Shape).Idx → EReal) (A : Fin 256 → Fin 4096 → EReal) (z : EReal) (hz : z = 0) (k : Fin 512) (r s : Fin 66) :
    (if h : (1 ≤ r.val ∧ r.val - 1 < 64) ∧ 1 ≤ s.val ∧ s.val - 1 < 64 then
        if h' : k.val < 256 then x (ix4 b (⟨k.val, h'⟩ : Fin 256) (⟨r.val - 1, h.1.2⟩ : Fin 64) (⟨s.val - 1, h.2.2⟩ : Fin 64))
        else A (⟨k.val - 256, by omega⟩ : Fin 256) (⟨(r.val - 1) * 64 + (s.val - 1), by omega⟩ : Fin 4096)
      else z) = padded (stack (flat x b) A) k r s := by
  subst hz
  unfold padded
  by_cases h : (1 ≤ r.val ∧ r.val - 1 < 64) ∧ 1 ≤ s.val ∧ s.val - 1 < 64
  · have h2 : (1 ≤ r.val ∧ r.val ≤ 64) ∧ (1 ≤ s.val ∧ s.val ≤ 64) := by omega
    rw [dif_pos h, dif_pos h2]
    unfold stack flat
    by_cases hk : k.val < 256
    · rw [dif_pos hk, dif_pos hk]
      have hr : (⟨r.val - 1, h.1.2⟩ : Fin 64) = ⟨((r.val - 1) * 64 + (s.val - 1)) / 64, by omega⟩ := Fin.ext (by dsimp only; omega)
      have hs : (⟨s.val - 1, h.2.2⟩ : Fin 64) = ⟨((r.val - 1) * 64 + (s.val - 1)) % 64, by omega⟩ := Fin.ext (by dsimp only; omega)
      rw [hr, hs]
    · rw [dif_neg hk, dif_neg hk]
  · have h2 : ¬ ((1 ≤ r.val ∧ r.val ≤ 64) ∧ (1 ≤ s.val ∧ s.val ≤ 64)) := by omega
    rw [dif_neg h, dif_neg h2]

/-- The output convolution's operand, over the image, the values and the exponentials. -/
theorem stacked (x v : FVec Ideal S8x256x64x64 .f32) (w : FVec Ideal S8x4096x4096 .f32) (V : Fin 256 → Fin 4096 → EReal) (W : Fin 4096 → Fin 4096 → EReal)
    (hV : ∀ k (y z : Fin 64), v (ix4 b k y z) = V k (⟨64 * y + z, by omega⟩ : Fin 4096)) (hW : ∀ n j, w (ix3 b n j) = W n j) (k : Fin 512) (r s : Fin 66) :
    pad S8x512x66x66 ![0, 0, 1, 1] ![0, 0, 1, 1] ![0, 0, 0, 0] (concatenate S8x512x64x64 1 [⟨S8x256x64x64, x⟩, ⟨S8x256x64x64,
        (shapeCast _ (Host.dotGeneral dot_S8x256x4096_S8x4096x4096_S8x256x4096_2_2_1_1_0_0 none (shapeCast _ v shapeCasts_S8x256x64x64_S8x256x4096)
          (Host.divf w (broadcastInDim S8x4096x4096 ![0, 1, 2] bcast_S8x4096x1_S8x4096x4096_0_1_2 (broadcastInDim S8x4096x1 ![0, 1] bcast_S8x4096_S8x4096x1_0_1
            (Host.reduceAdd w (constant S_ .f32 0x00000000#32) reducesTo_S8x4096x4096_S8x4096_d2 h_S_))))) shapeCasts_S8x256x4096_S8x256x64x64)⟩]
        concatenates_S8x256x64x64_S8x256x64x64_S8x512x64x64_d1) (sitofp .f32 (constantI S_ 32 0#32)) pads_S8x512x64x64_S8x512x66x66_000_000_110_110 h_S_ (ix4 b k r s)
      = padded (stack (flat x b) fun c n => ∑ j, V c j * Ideal.div (W n j) (∑ i, W n i)) k r s := by
  pointwise []
  simp only [hV, hW, pixel]
  have hz : (FloatOps.sitofp .f32 0#32 : Ideal .f32) = (0 : EReal) := by simp [FloatOps.sitofp]
  exact stack_pad b x (fun c n => ∑ j, V c j * Ideal.div (W n j) (∑ i, W n i)) _ hz k r s

/-- What the reference's output convolution reads: the padded image stacked on its attention. -/
theorem stacked_at (k : Fin 512) (r s : Fin 66) : (res_main_v253 V0 : FVec Ideal S8x512x66x66 .f32) (ix4 b k r s)
    = padded (stack (flat (V0 (Proc.devRef .tc main_arg0)) b) (attnR (queries V0 b) (keys V0 b) (values V0 b) (masks V0 b))) k r s :=
  stacked b _ _ _ _ _ (fun c y z => value V0 b c y z) (fun n j => weight_at V0 b n j) k r s

end Cert.ReferenceIdeal.Attention

end

end
-- ==== Proof.Entry.lean ====
/- The arrays the kernel's region finds, read at an index: the arguments reshaped, stacked, transposed and padded. -/
module

public import proofs.«01_k».proof.Proof.Images
public import proofs.«01_k».proof.Proof.Gen.KernelIdeal.Frame
public import Idealize.ShloMosaic.Lib.Pipeline.ValueKit

@[expose] public section

set_option maxRecDepth 16384

noncomputable section

namespace Cert.KernelIdeal.Entry

open Idealize.ShloMosaic Idealize.ShloMosaic.TcCoe Idealize.SL.Sem Cert.KernelIdeal Cert.KernelIdeal.Gen Cert.Images

variable (m : (ℓ : Loc nD τ sig) → Buf (Elt Ideal) ℓ)

/-- The first input, its images flattened. -/
theorem images (c : Dev nD) (b : Fin 8) (k : Fin 256) (p : Fin 4096) :
    (V m c main_v0 : FVec Ideal S8x256x4096 .f32) (ix3 b k p) = flat (m ((c.tc : Thread nD τ).loc main_arg0)) b k p := by
  have e : (V m c main_v0 : FVec Ideal S8x256x4096 .f32)
      = shapeCast S8x256x4096 (m ((c.tc : Thread nD τ).loc main_arg0)) shapeCasts_S8x256x64x64_S8x256x4096 := by
    entry_read
    simp only [hostOps0, hostOps0_1, hostOps0_2, List.flatten_cons, List.flatten_nil, List.append_nil, List.cons_append, List.nil_append]
    after_results
    rfl
  rw [e]
  pointwise [flat]

/-- The second input, its images flattened. -/
theorem mask_images (c : Dev nD) (b : Fin 8) (k : Fin 256) (p : Fin 4096) :
    (V m c main_v1 : FVec Ideal S8x256x4096 .f32) (ix3 b k p) = flat (m ((c.tc : Thread nD τ).loc main_arg1)) b k p := by
  have e : (V m c main_v1 : FVec Ideal S8x256x4096 .f32)
      = shapeCast S8x256x4096 (m ((c.tc : Thread nD τ).loc main_arg1)) shapeCasts_S8x256x64x64_S8x256x4096 := by
    entry_read
    simp only [hostOps0, hostOps0_1, hostOps0_2, List.flatten_cons, List.flatten_nil, List.append_nil, List.cons_append, List.nil_append]
    after_results
    rfl
  rw [e]
  pointwise [flat]

/-- The projections' weights: the queries', the keys' and the values', stacked. -/
theorem projection_weights (c : Dev nD) (s : Fin 9) (o : Fin 320) (k : Fin 256) :
    (V m c main_v5 : FVec Ideal S9x320x256 .bf16) (ix3 s o k)
      = if h : o.val < 32 then weights (m ((c.tc : Thread nD τ).loc main_arg2)) (⟨o, h⟩ : Fin 32) s k
        else if h : o.val - 32 < 32 then weights (m ((c.tc : Thread nD τ).loc main_arg4)) (⟨o - 32, h⟩ : Fin 32) s k
        else weights (m ((c.tc : Thread nD τ).loc main_arg6)) (⟨o - 32 - 32, by omega⟩ : Fin 256) s k := by
  entry_read
  simp only [hostOps0, hostOps0_1, hostOps0_2, List.flatten_cons, List.flatten_nil, List.append_nil, List.cons_append, List.nil_append]
  after_results
  pointwise []
  rfl

/-- The projections' biases: the queries', the keys' and the values', stacked. -/
theorem biases (c : Dev nD) (o : Fin 320) :
    (V m c main_v7 : FVec Ideal S320x1 .f32) (ix2 o 0)
      = if h : o.val < 32 then m ((c.tc : Thread nD τ).loc main_arg3) (ix1 (⟨o, h⟩ : Fin 32))
        else if h : o.val - 32 < 32 then m ((c.tc : Thread nD τ).loc main_arg5) (ix1 (⟨o - 32, h⟩ : Fin 32))
        else m ((c.tc : Thread nD τ).loc main_arg7) (ix1 (⟨o - 32 - 32, by omega⟩ : Fin 256)) := by
  entry_read
  simp only [hostOps0, hostOps0_1, hostOps0_2, List.flatten_cons, List.flatten_nil, List.append_nil, List.cons_append, List.nil_append]
  after_results
  pointwise []
  rfl

/-- The mask's weights as the host pads, transposes and flattens them, in the first of eight rows. -/
theorem mask_row (w : FVec Ideal S1x256x3x3 .f32) (s : Fin 9) (k : Fin 256) :
    truncf (F := Ideal) .bf16 (shapeCast S9x8x256 (transpose S3x3x8x256 [2, 3, 0, 1]
        (pad S8x256x3x3 ![0, 0, 0, 0] ![7, 0, 0, 0] ![0, 0, 0, 0] w (sitofp .f32 (constantI S_ 32 0#32)) pads_S1x256x3x3_S8x256x3x3_070_000_000_000 h_S_)
        transposes_S8x256x3x3_S3x3x8x256_2_3_0_1) shapeCasts_S3x3x8x256_S9x8x256) bitsLt_bf16_f32 (ix3 s 0 k) = weights w 0 s k := by
  pointwise [weights]
  rw [dif_pos ⟨by omega, by omega⟩]

/-- The mask's weights, in the first of eight rows. -/
theorem mask_weights (c : Dev nD) (s : Fin 9) (k : Fin 256) :
    (V m c main_v11 : FVec Ideal S9x8x256 .bf16) (ix3 s 0 k) = weights (m ((c.tc : Thread nD τ).loc main_arg8)) (0 : Fin 1) s k := by
  have e : (V m c main_v11 : FVec Ideal S9x8x256 .bf16)
      = truncf (F := Ideal) .bf16 (shapeCast S9x8x256 (transpose S3x3x8x256 [2, 3, 0, 1]
          (pad S8x256x3x3 ![0, 0, 0, 0] ![7, 0, 0, 0] ![0, 0, 0, 0] (m ((c.tc : Thread nD τ).loc main_arg8) : FVec Ideal S1x256x3x3 .f32)
            (sitofp .f32 (constantI S_ 32 0#32)) pads_S1x256x3x3_S8x256x3x3_070_000_000_000 h_S_)
          transposes_S8x256x3x3_S3x3x8x256_2_3_0_1) shapeCasts_S3x3x8x256_S9x8x256) bitsLt_bf16_f32 := by
    entry_read
    simp only [hostOps0, hostOps0_1, hostOps0_2, List.flatten_cons, List.flatten_nil, List.append_nil, List.cons_append, List.nil_append]
    after_results
    rfl
  rw [e]
  exact mask_row _ s k

/-- The output's weights. -/
theorem output_weights (c : Dev nD) (s : Fin 9) (o : Fin 256) (k : Fin 512) :
    (V m c main_v14 : FVec Ideal S9x256x512 .bf16) (ix3 s o k) = weights (m ((c.tc : Thread nD τ).loc main_arg9)) o s k := by
  entry_read
  simp only [hostOps0, hostOps0_1, hostOps0_2, List.flatten_cons, List.flatten_nil, List.append_nil, List.cons_append, List.nil_append]
  after_results
  pointwise []
  rfl

end Cert.KernelIdeal.Entry

end

end
-- ==== Proof.Masks.lean ====
/- What the kernel's column masks, zero pads and ones are, index by index. -/
module

public import proofs.«01_k».proof.Proof.Gen.KernelIdeal.Skeleton
public import proofs.«01_k».proof.Proof.Taps
public import Idealize.ShloMosaic.Lib.Pointwise

@[expose] public section

set_option maxRecDepth 16384

noncomputable section

namespace Cert.KernelIdeal.Masks

open Idealize.ShloMosaic Idealize.ShloMosaic.TcCoe Idealize.SL.Sem Cert.KernelIdeal Cert.KernelIdeal.Gen

/-- The column number the kernel computes, as a word, is the pixel's number modulo 64. -/
theorem column_word : ∀ p : Fin 4096, k0_pay4 (ix2 0 p) = BitVec.ofNat 32 ((p : ℕ) % 64) := by decide +kernel

/-- Columns from the second on, as a word. -/
theorem left_word : ∀ k : Fin 64, BitVec.setWidth 32 (IntOp.cmpi CmpIPredicate.sge (BitVec.ofNat 32 (k : ℕ)) 1#32) = if (k : ℕ) = 0 then 0#32 else 1#32 := by
  decide +kernel

/-- Columns up to the last but one, as a word. -/
theorem right_word : ∀ k : Fin 64, BitVec.setWidth 32 (IntOp.cmpi CmpIPredicate.sle (BitVec.ofNat 32 (k : ℕ)) 62#32) = if (k : ℕ) = 63 then 0#32 else 1#32 := by
  decide +kernel

/-- A 0/1 word converted to the extended reals. -/
theorem toReal_word (P : Prop) [Decidable P] : (FloatOps.sitofp (F := Ideal) .f32 (if P then 0#32 else 1#32) : EReal) = if P then 0 else 1 := by
  by_cases h : P
  · rw [if_pos h, if_pos h]; show (((0#32).toInt : ℝ) : EReal) = 0; norm_num
  · rw [if_neg h, if_neg h]; show (((1#32).toInt : ℝ) : EReal) = 1; norm_num

/-- The left mask is 0 at the first column and 1 elsewhere. -/
theorem left (p : Fin 4096) : k0_pay5 (F := Ideal) (ix2 0 p) = Cert.Taps.maskL p := by
  pointwise [k0_pay5, column_word]
  rw [left_word ⟨p % 64, Nat.mod_lt _ (by norm_num)⟩]
  exact toReal_word _

/-- The right mask is 0 at the last column and 1 elsewhere. -/
theorem right (p : Fin 4096) : k0_pay6 (F := Ideal) (ix2 0 p) = Cert.Taps.maskR p := by
  pointwise [k0_pay6, column_word]
  rw [right_word ⟨p % 64, Nat.mod_lt _ (by norm_num)⟩]
  exact toReal_word _

/-- The slab's zeros in front of the image. -/
theorem front (y : S512x128.Idx) : k0_pay2 (F := Ideal) y = 0 := by
  idx_vars y
  pointwise [k0_pay2]

/-- The slab's zeros behind the image. -/
theorem behind (y : S512x128.Idx) : k0_pay3 (F := Ideal) y = 0 := by
  idx_vars y
  pointwise [k0_pay3]

/-- The ones the kernel sums its weights with. -/
theorem ones (i : Fin 8) (p : Fin 4096) : k0_pay23 (F := Ideal) (ix2 i p) = 1 := by
  pointwise [k0_pay23]

end Cert.KernelIdeal.Masks

end

end
-- ==== Proof.Slab.lean ====
/- What the kernel's slab scratch holds: each store's rectangle read index by index, then the slab after the mask image, and after the image itself, was stored
   between the two zero pads; and what a load of a window of it reads. -/
module

public import proofs.«01_k».proof.Proof.Gen.KernelIdeal.Frame
public import proofs.«01_k».proof.Proof.Masks
public import Idealize.ShloMosaic.Lib.Pipeline.ValueKit
public import Idealize.ShloMosaic.Lib.Pipeline.ReadBack

@[expose] public section

set_option maxRecDepth 16384

noncomputable section

namespace Cert.KernelIdeal.Slab

open Idealize.ShloMosaic Idealize.ShloMosaic.TcCoe Idealize.SL.Sem Cert.KernelIdeal Cert.KernelIdeal.Gen Cert.Taps

variable {a b : ℕ} {e : EltTy}

/-- A rectangle of a two-axis buffer holds an index when each coordinate lies in its interval. -/
theorem mem_rect (o0 o1 : ℕ) (n0 n1 : ℕ) (inb) (r : Fin a) (q : Fin b) :
    ix2 r q ∈ (Rect.unit (s := ⟨2, ![a, b]⟩) ![o0, o1] ![n0, n1] inb).set
      ↔ (o0 ≤ r.val ∧ r.val < o0 + n0) ∧ (o1 ≤ q.val ∧ q.val < o1 + n1) := by
  rw [Rect.mem_set_unit]
  constructor
  · intro h
    exact ⟨h 0, h 1⟩
  · rintro ⟨h0, h1⟩ d
    match d with
    | 0 => exact h0
    | 1 => exact h1

/-- Inside the last store's rectangle, the buffer holds its payload. -/
theorem canon_in (L : List (View.Piece (Elt Ideal) ⟨2, ![a, b]⟩ e)) (o0 o1 : ℕ) (n0 n1 : ℕ) (inb)
    (w : (Rect.unit (s := ⟨2, ![a, b]⟩) ![o0, o1] ![n0, n1] inb).shape.Idx → Elt Ideal e) (i : Fin (n0)) (j : Fin (n1)) (r : Fin a) (q : Fin b)
    (hr : r.val = o0 + i.val) (hq : q.val = o1 + j.val) :
    View.canon (Val := Elt Ideal) (⟨Rect.unit (s := ⟨2, ![a, b]⟩) ![o0, o1] ![n0, n1] inb, w⟩ :: L) (ix2 r q) = w (ix2 i j) := by
  have e : ix2 r q = (Rect.unit (s := ⟨2, ![a, b]⟩) ![o0, o1] ![n0, n1] inb).emb (ix2 i j) := by
    funext d
    match d with
    | 0 => exact Fin.ext (by rw [show (ix2 r q 0).val = o0 + i.val from hr]; exact congrArg (o0 + ·) (Nat.one_mul i.val).symm)
    | 1 => exact Fin.ext (by rw [show (ix2 r q 1).val = o1 + j.val from hq]; exact congrArg (o1 + ·) (Nat.one_mul j.val).symm)
  rw [e]
  exact View.canon_cons_emb _ w L _

/-- Outside it, what the earlier stores left. -/
theorem canon_out (L : List (View.Piece (Elt Ideal) ⟨2, ![a, b]⟩ e)) (o0 o1 : ℕ) (n0 n1 : ℕ) (inb)
    (w : (Rect.unit (s := ⟨2, ![a, b]⟩) ![o0, o1] ![n0, n1] inb).shape.Idx → Elt Ideal e) (r : Fin a) (q : Fin b)
    (h : ¬ ((o0 ≤ r.val ∧ r.val < o0 + n0) ∧ (o1 ≤ q.val ∧ q.val < o1 + n1))) :
    View.canon (Val := Elt Ideal) (⟨Rect.unit (s := ⟨2, ![a, b]⟩) ![o0, o1] ![n0, n1] inb, w⟩ :: L) (ix2 r q) = View.canon (Val := Elt Ideal) L (ix2 r q) :=
  View.canon_cons_of_not_mem _ _ fun hm => h ((mem_rect o0 o1 n0 n1 inb r q).1 hm)

/-- A load of a rectangle reads the buffer's contents at the shifted index. -/
theorem load {κ : Kind} {sp : Space} (v : View sig κ sp ⟨2, ![a, b]⟩ e) (L : List (View.Piece (Elt Ideal) ⟨2, ![a, b]⟩ e)) (o0 o1 : ℕ) (n0 n1 : ℕ) (inb)
    (i : Fin (n0)) (j : Fin (n1)) (r : Fin a) (q : Fin b) (hr : r.val = o0 + i.val) (hq : q.val = o1 + j.val) :
    v.readCov L (Rect.unit (s := ⟨2, ![a, b]⟩) ![o0, o1] ![n0, n1] inb).toLoadRect (ix2 i j)
      = View.canon (Val := Elt Ideal) L (ix2 r q) := by
  rw [View.readCov_eq_canon']
  refine congrArg (View.canon (Val := Elt Ideal) L) (funext fun d => ?_)
  match d with
  | 0 => exact Fin.ext (by rw [show (ix2 r q 0).val = o0 + i.val from hr]; exact congrArg (o0 + ·) (Nat.one_mul i.val))
  | 1 => exact Fin.ext (by rw [show (ix2 r q 1).val = o1 + j.val from hq]; exact congrArg (o1 + ·) (Nat.one_mul j.val))

/-! ## The slab after each image was stored -/

section

variable (c : Dev nD) (arg1 : Memref sig .tc .vmem S1x256x4096 .f32) (harg1 : arg1.IsWhole) (arg2 : Memref sig .tc .vmem S1x256x4096 .f32) (harg2 : arg2.IsWhole)
  (x0 x1 : Vec Ideal S1x256x4096 .f32)

/-- The image a block of an input holds, channel by channel. -/
def image (x : Vec Ideal S1x256x4096 .f32) (k : Fin 256) (p : Fin 4096) : EReal := x (ix3 0 k p)

/-- After the mask image was stored, the first 256 rows are its slab. -/
theorem mask_slab (k : Fin 256) (r : Fin 512) (q : Fin 4352) (hr : r.val = k.val) :
    View.canon (Val := Elt Ideal) (kernelRun0_A.sl.HS0_3 (F := Ideal) c arg2 harg2 x1) (ix2 r q) = slab (image x1) k q := by
  have hq := q.2
  have hk := k.2
  unfold kernelRun0_A.sl.HS0_3 slab
  by_cases h : 128 ≤ q.val ∧ q.val < 4224
  · rw [dif_pos h, canon_in _ 0 128 256 4096 _ _ k ⟨q - 128, by omega⟩ r q (by omega) (by dsimp only; omega)]
    simp only [kernelRun0_A.sl.r, View.readAt_eq_ld, Memref.IsWhole.read_unread]
    pointwise [k0_pay8, k0_pay7, image]
  · rw [dif_neg h, canon_out _ 0 128 256 4096 _ _ r q (by omega)]
    by_cases h' : q.val < 128
    · rw [canon_out _ 0 4224 512 128 _ _ r q (by omega), canon_in _ 0 0 512 128 _ _ r ⟨q, h'⟩ r q (by omega) (by dsimp only; omega)]
      exact Masks.front _
    · rw [canon_in _ 0 4224 512 128 _ _ r ⟨q - 4224, by omega⟩ r q (by omega) (by dsimp only; omega)]
      exact Masks.behind _

/-- After the image was stored, the first 256 rows are its slab. -/
theorem image_slab (k : Fin 256) (r : Fin 512) (q : Fin 4352) (hr : r.val = k.val) :
    View.canon (Val := Elt Ideal) (kernelRun0_A.sl.HS0_4 (F := Ideal) c arg1 harg1 arg2 harg2 x0 x1) (ix2 r q) = slab (image x0) k q := by
  have hk := k.2
  unfold kernelRun0_A.sl.HS0_4
  by_cases h : 128 ≤ q.val ∧ q.val < 4224
  · rw [slab, dif_pos h, canon_in _ 0 128 256 4096 _ _ k ⟨q - 128, by omega⟩ r q (by omega) (by dsimp only; omega)]
    simp only [View.readAt_eq_ld, Memref.IsWhole.read_unread]
    pointwise [k0_pay16, image]
  · rw [canon_out _ 0 128 256 4096 _ _ r q (by omega), mask_slab c arg2 harg2 x1 k r q hr, slab, slab, dif_neg h, dif_neg h]

/-- The other 256 rows are zero outside the image's columns. -/
theorem pad_slab (r : Fin 512) (q : Fin 4352) (hr : 256 ≤ r.val) (h : ¬ (128 ≤ q.val ∧ q.val < 4224)) :
    View.canon (Val := Elt Ideal) (kernelRun0_A.sl.HS0_4 (F := Ideal) c arg1 harg1 arg2 harg2 x0 x1) (ix2 r q) = (0 : EReal) := by
  have hq := q.2
  unfold kernelRun0_A.sl.HS0_4 kernelRun0_A.sl.HS0_3
  rw [canon_out _ 0 128 256 4096 _ _ r q (by omega), canon_out _ 0 128 256 4096 _ _ r q (by omega)]
  by_cases h' : q.val < 128
  · rw [canon_out _ 0 4224 512 128 _ _ r q (by omega), canon_in _ 0 0 512 128 _ _ r ⟨q, h'⟩ r q (by omega) (by dsimp only; omega)]
    exact Masks.front _
  · rw [canon_in _ 0 4224 512 128 _ _ r ⟨q - 4224, by omega⟩ r q (by omega) (by dsimp only; omega)]
    exact Masks.behind _

end

end Cert.KernelIdeal.Slab

end

end
-- ==== Proof.Projections.lean ====
/- What the kernel leaves in its mask, query, key and value scratches: convolutions of the two images. -/
module

public import proofs.«01_k».proof.Proof.Slab

@[expose] public section

set_option maxRecDepth 16384

noncomputable section

namespace Cert.KernelIdeal.Projections

open Idealize.ShloMosaic Idealize.ShloMosaic.TcCoe Idealize.SL.Sem Cert.KernelIdeal Cert.KernelIdeal.Gen Cert.Taps Cert.KernelIdeal.Slab

/-- A load of 256 rows and 4096 columns of a slab, shifted by `o` columns. -/
theorem window {κ : Kind} {sp : Space} (v : View sig κ sp S512x4352 .bf16) (L : List (View.Piece (Elt Ideal) S512x4352 .bf16)) (X : Fin 256 → Fin 4096 → EReal)
    (hL : ∀ (k : Fin 256) (r : Fin 512) (q : Fin 4352), r.val = k.val → View.canon (Val := Elt Ideal) L (ix2 r q) = slab X k q)
    (o : ℕ) (inb : ∀ a, (![0, o] : Fin 2 → ℕ) a + S256x4096.size a ≤ S512x4352.size a) (k : Fin 256) (p : Fin 4096) :
    v.readCov L (Rect.unit (s := S512x4352) ![0, o] S256x4096.size inb).toLoadRect (ix2 k p) = slab X k (o + p) := by
  have ho : o + 4096 ≤ 4352 := inb 1
  have hk := k.2
  have hp := p.2
  exact (load v L 0 o 256 4096 inb k p ⟨k, by omega⟩ ⟨o + p, by omega⟩ (by dsimp only; omega) rfl).trans (hL k _ _ rfl)

variable (c : Dev nD) (arg1 : Memref sig .tc .vmem S1x256x4096 .f32) (harg1 : arg1.IsWhole) (arg2 : Memref sig .tc .vmem S1x256x4096 .f32) (harg2 : arg2.IsWhole)
  (arg3 : Memref sig .tc .vmem S9x320x256 .bf16) (harg3 : arg3.IsWhole) (arg4 : Memref sig .tc .vmem S320x1 .f32) (harg4 : arg4.IsWhole)
  (arg5 : Memref sig .tc .vmem S9x8x256 .bf16) (harg5 : arg5.IsWhole) (arg8 : Memref sig .tc .vmem S512x4352 .bf16)
  (arg9 : Memref sig .tc .vmem S320x4096 .bf16) (arg10 : Memref sig .tc .vmem S8x4096 .f32) (arg11 : Memref sig .tc .vmem S4096x8 .f32)
  (x0 x1 : Vec Ideal S1x256x4096 .f32) (x2 : Vec Ideal S9x320x256 .bf16) (x3 : Vec Ideal S320x1 .f32) (x4 : Vec Ideal S9x8x256 .bf16)

/-- The mask's value at a pixel, clipped to at least 0, before the clip to at most 1. -/
theorem mask_row (p : Fin 4096) :
    kernelRun0_A.sl.r_4 (F := Ideal) c arg2 harg2 arg5 harg5 arg8 x1 x4 (ix2 0 p) = max 0 (convK (fun s k => x4 (ix3 s 0 k)) (image x1) p) := by
  have hw := window arg8.view _ _ (mask_slab c arg2 harg2 x1)
  simp only [kernelRun0_A.sl.r_1, kernelRun0_A.sl.r_2, kernelRun0_A.sl.r_3, kernelRun0_A.sl.r_4, View.readAt_eq_ld, Memref.IsWhole.read_unread]
  pointwise [k0_pay12, k0_pay9, k0_pay10, k0_pay11]
  simp only [kernelRun0_A.sl.v43, kernelRun0_A.sl.v48, kernelRun0_A.sl.v53, kernelRun0_A.sl.v62, kernelRun0_A.sl.v67, kernelRun0_A.sl.v72, kernelRun0_A.sl.v79,
    kernelRun0_A.sl.v84, kernelRun0_A.sl.v89, hw, Masks.left, Masks.right]
  rfl

/-- The clipped mask at a pixel. -/
def maskAt (x1 : Vec Ideal S1x256x4096 .f32) (x4 : Vec Ideal S9x8x256 .bf16) (p : Fin 4096) : EReal :=
  min 1 (max 0 (convK (fun s k => x4 (ix3 s 0 k)) (image x1) p))

/-- A projection of the image at a pixel: row `o` of the stacked queries, keys and values. -/
def proj (x0 : Vec Ideal S1x256x4096 .f32) (x2 : Vec Ideal S9x320x256 .bf16) (x3 : Vec Ideal S320x1 .f32) (o : Fin 320) (p : Fin 4096) : EReal :=
  convK (fun s k => x2 (ix3 s o k)) (image x0) p + x3 (ix2 o 0)

/-- The scratch of the mask as a row holds the clipped mask in its first row. -/
theorem mask_row_scratch (p : Fin 4096) :
    View.canon (Val := Elt Ideal) (kernelRun0_A.sl.HS2_1 (F := Ideal) c arg2 harg2 arg5 harg5 arg8 x1 x4) (ix2 0 p) = maskAt x1 x4 p := by
  unfold kernelRun0_A.sl.HS2_1
  rw [canon_in _ 0 0 8 4096 _ _ 0 p 0 p rfl (Nat.zero_add _).symm]
  pointwise [k0_pay14, k0_pay13, kernelRun0_A.sl.cst_54, maskAt, mask_row c arg2 harg2 arg5 harg5 arg8 x1 x4]

/-- The scratch of the mask as a column holds the clipped mask in its first column. -/
theorem mask_column_scratch (p : Fin 4096) :
    View.canon (Val := Elt Ideal) (kernelRun0_A.sl.HS3_1 (F := Ideal) c arg2 harg2 arg5 harg5 arg8 x1 x4) (ix2 p 0) = maskAt x1 x4 p := by
  unfold kernelRun0_A.sl.HS3_1
  rw [canon_in _ 0 0 4096 1 _ _ p 0 p 0 (Nat.zero_add _).symm rfl]
  pointwise [k0_pay15, k0_pay13, kernelRun0_A.sl.cst_54, maskAt, mask_row c arg2 harg2 arg5 harg5 arg8 x1 x4]

/-- The scratch of the queries, keys and values holds the projections. -/
theorem proj_scratch (o : Fin 320) (p : Fin 4096) :
    View.canon (Val := Elt Ideal) (kernelRun0_A.sl.HS1_1 (F := Ideal) c arg1 harg1 arg2 harg2 arg3 harg3 arg4 harg4 arg8 x0 x1 x2 x3) (ix2 o p)
      = proj x0 x2 x3 o p := by
  have hw := window arg8.view _ _ (image_slab c arg1 harg1 arg2 harg2 x0 x1)
  unfold kernelRun0_A.sl.HS1_1
  rw [canon_in _ 0 0 320 4096 _ _ o p o p (Nat.zero_add _).symm (Nat.zero_add _).symm]
  simp only [kernelRun0_A.sl.r_5, kernelRun0_A.sl.r_6, kernelRun0_A.sl.r_7, kernelRun0_A.sl.r_8, View.readAt_eq_ld, Memref.IsWhole.read_unread]
  pointwise [k0_pay17, k0_pay18, k0_pay19, k0_pay20, k0_pay21, k0_pay22]
  simp only [kernelRun0_A.sl.v117, kernelRun0_A.sl.v122, kernelRun0_A.sl.v127, kernelRun0_A.sl.v136, kernelRun0_A.sl.v141, kernelRun0_A.sl.v146,
    kernelRun0_A.sl.v153, kernelRun0_A.sl.v158, kernelRun0_A.sl.v163, hw, Masks.left, Masks.right]
  rfl

end Cert.KernelIdeal.Projections

end

end
-- ==== Proof.Attention.lean ====
/- What the kernel's sixteen attention blocks leave in the slab: below the image, the attention of every pixel, so that the slab the output convolution reads is
   that of the image and its attention stacked. -/
module

public import proofs.«01_k».proof.Proof.Projections
public import proofs.«01_k».proof.Proof.Images

@[expose] public section

set_option maxRecDepth 16384

noncomputable section

namespace Cert.KernelIdeal.Attention

open Cert.Images Idealize.ShloMosaic Idealize.ShloMosaic.TcCoe Idealize.SL.Sem Cert.KernelIdeal Cert.KernelIdeal.Gen Cert.Taps Cert.KernelIdeal.Slab Cert.KernelIdeal.Projections

/-- The kernel's attention at channel `k` and pixel `n`, from the queries, keys, values and mask: the values weighted by powers of two of the scaled energies, times
    the reciprocal of the sum of the powers. -/
def attnK (Q K : Fin 32 → Fin 4096 → EReal) (V : Fin 256 → Fin 4096 → EReal) (D : Fin 4096 → EReal) (k : Fin 256) (n : Fin 4096) : EReal :=
  (∑ j, V k j * Ideal.exp2 ((∑ a, Q a n * K a j) * D j * ((((Real.log 2)⁻¹ : ℝ) : EReal) * (1 - D n))))
    * Ideal.div 1 (∑ j, 1 * Ideal.exp2 ((∑ a, Q a n * K a j) * D j * ((((Real.log 2)⁻¹ : ℝ) : EReal) * (1 - D n))))

/-- The named constant of the energies' scale is the real `1 / log 2`. -/
theorem log2e : Named.named (F := Ideal) Cert.KernelIdeal.κ "log2e" (φ := .f32) 0x3FB8AA3B#32 = (((Real.log 2)⁻¹ : ℝ) : EReal) :=
  IdealRules.named_const.ideal_named_scalar _ _ _ _ rfl

/-- One block of the kernel: 256 pixels from `n` on, its operands read index by index. -/
theorem block (Q K : Fin 32 → Fin 4096 → EReal) (V : Fin 256 → Fin 4096 → EReal) (D : Fin 4096 → EReal)
    (mm : FVec Ideal S1x4096 .f32) (q : FVec Ideal S32x256 .bf16) (k : FVec Ideal S32x4096 .bf16) (d : FVec Ideal S256x1 .f32) (v : FVec Ideal S256x4096 .bf16)
    (n : ℕ) (hn : n + 256 ≤ 4096) (hmm : ∀ p, mm (ix2 0 p) = D p) (hq : ∀ a (i : Fin 256), q (ix2 a i) = Q a ⟨n + i, by omega⟩) (hk : ∀ a p, k (ix2 a p) = K a p)
    (hd : ∀ i : Fin 256, d (ix2 i 0) = D ⟨n + i, by omega⟩) (hv : ∀ c p, v (ix2 c p) = V c p) (c i : Fin 256) :
    k0_pay29 (F := Ideal) mm k0_pay23 q k d v (ix2 c i) = attnK Q K V D c ⟨n + i, by omega⟩ := by
  pointwise [k0_pay29]
  simp only [hmm, hq, hk, hd, hv, log2e, Masks.ones]
  rfl

/-- The contents at an index, when the last store's payload is a block of `G` and the earlier stores leave `G` off its rectangle. -/
theorem canon_cons_of {a b : ℕ} {e : EltTy} (G : (⟨2, ![a, b]⟩ : Shape).Idx → Elt Ideal e) (p : View.Piece (Elt Ideal) ⟨2, ![a, b]⟩ e)
    (L : List (View.Piece (Elt Ideal) ⟨2, ![a, b]⟩ e)) (y : (⟨2, ![a, b]⟩ : Shape).Idx) (hp : ∀ x : p.1.shape.Idx, p.2 x = G (p.1.emb x))
    (hL : y ∉ p.1.set → View.canon (Val := Elt Ideal) L y = G y) : View.canon (Val := Elt Ideal) (p :: L) y = G y := by
  by_cases h : y ∈ p.1.set
  · obtain ⟨x, rfl⟩ := p.1.exists_idx_of_mem h
    exact (View.canon_cons_emb p.1 p.2 L x).trans (hp x)
  · rw [View.canon_cons_of_not_mem _ _ h, hL h]

variable (c : Dev nD) (arg1 : Memref sig .tc .vmem S1x256x4096 .f32) (harg1 : arg1.IsWhole) (arg2 : Memref sig .tc .vmem S1x256x4096 .f32) (harg2 : arg2.IsWhole)
  (arg3 : Memref sig .tc .vmem S9x320x256 .bf16) (harg3 : arg3.IsWhole) (arg4 : Memref sig .tc .vmem S320x1 .f32) (harg4 : arg4.IsWhole)
  (arg5 : Memref sig .tc .vmem S9x8x256 .bf16) (harg5 : arg5.IsWhole) (arg8 : Memref sig .tc .vmem S512x4352 .bf16)
  (arg9 : Memref sig .tc .vmem S320x4096 .bf16) (arg10 : Memref sig .tc .vmem S8x4096 .f32) (arg11 : Memref sig .tc .vmem S4096x8 .f32)
  (x0 x1 : Vec Ideal S1x256x4096 .f32) (x2 : Vec Ideal S9x320x256 .bf16) (x3 : Vec Ideal S320x1 .f32) (x4 : Vec Ideal S9x8x256 .bf16)

/-- The attention of a block of inputs. -/
def attnAt : Fin 256 → Fin 4096 → EReal :=
  attnK (fun a => proj x0 x2 x3 ⟨a, by omega⟩) (fun a => proj x0 x2 x3 ⟨32 + a, by omega⟩) (fun k => proj x0 x2 x3 ⟨64 + k, by omega⟩) (maskAt x1 x4)

/-- The slab of the image stacked on its attention, as contents of the scratch. -/
def fullSlab (y : S512x4352.Idx) : EReal := slab (stack (image x0) (attnAt x0 x1 x2 x3 x4)) (y 0) (y 1).val

theorem inb_queries {n : ℕ} (hn : n + 256 ≤ 4096) : ∀ a, (![0, n] : Fin 2 → ℕ) a + S32x256.size a ≤ S320x4096.size a := fun a => by
  match a with
  | 0 => exact (by norm_num : 0 + 32 ≤ 320)
  | 1 => exact hn

theorem inb_mask {n : ℕ} (hn : n + 256 ≤ 4096) : ∀ a, (![n, 0] : Fin 2 → ℕ) a + S256x1.size a ≤ S4096x8.size a := fun a => by
  match a with
  | 0 => exact hn
  | 1 => exact (by norm_num : 0 + 1 ≤ 8)

theorem inb_slab {n : ℕ} (hn : n + 256 ≤ 4096) : ∀ a, (![256, 128 + n] : Fin 2 → ℕ) a + S256x256.size a ≤ S512x4352.size a := fun a => by
  match a with
  | 0 => exact (by norm_num : 256 + 256 ≤ 512)
  | 1 => exact (by omega : 128 + n + 256 ≤ 4352)

/-- A block's store holds a block of the full slab. -/
theorem piece (n : ℕ) (hn : n + 256 ≤ 4096) (y : S256x256.Idx) :
    k0_pay29 (F := Ideal) (kernelRun0_A.sl.v177 c arg2 harg2 arg5 harg5 arg8 arg10 x1 x4) k0_pay23
        (arg9.view.readCov (kernelRun0_A.sl.HS1_1 c arg1 harg1 arg2 harg2 arg3 harg3 arg4 harg4 arg8 x0 x1 x2 x3) (Rect.unit (s := S320x4096) ![0, n] S32x256.size (inb_queries hn)).toLoadRect)
        (kernelRun0_A.sl.v180 c arg1 harg1 arg2 harg2 arg3 harg3 arg4 harg4 arg8 arg9 x0 x1 x2 x3)
        (arg11.view.readCov (kernelRun0_A.sl.HS3_1 c arg2 harg2 arg5 harg5 arg8 x1 x4) (Rect.unit (s := S4096x8) ![n, 0] S256x1.size (inb_mask hn)).toLoadRect)
        (kernelRun0_A.sl.v193 c arg1 harg1 arg2 harg2 arg3 harg3 arg4 harg4 arg8 arg9 x0 x1 x2 x3) y
      = fullSlab x0 x1 x2 x3 x4 ((Rect.unit (s := S512x4352) ![256, 128 + n] S256x256.size (inb_slab hn)).emb y) := by
  obtain ⟨k, i, rfl⟩ : ∃ k i : Fin 256, y = ix2 k i := ⟨y 0, y 1, eq_ix2 y⟩
  have hp := proj_scratch c arg1 harg1 arg2 harg2 arg3 harg3 arg4 harg4 arg8 x0 x1 x2 x3
  have hr := mask_row_scratch c arg2 harg2 arg5 harg5 arg8 x1 x4
  have hc := mask_column_scratch c arg2 harg2 arg5 harg5 arg8 x1 x4
  refine (block (fun a => proj x0 x2 x3 ⟨a, by omega⟩) (fun a => proj x0 x2 x3 ⟨32 + a, by omega⟩) (fun k => proj x0 x2 x3 ⟨64 + k, by omega⟩) (maskAt x1 x4)
    _ _ _ _ _ n hn ?_ ?_ ?_ ?_ ?_ k i).trans ?_
  · exact fun p => (load arg10.view _ 0 0 1 4096 _ 0 p 0 p rfl (Nat.zero_add _).symm).trans (hr p)
  · exact fun a i => (load arg9.view _ 0 n 32 256 (inb_queries hn) a i ⟨a, by omega⟩ ⟨n + i, by omega⟩ (Nat.zero_add _).symm rfl).trans (hp _ _)
  · exact fun a p => (load arg9.view _ 32 0 32 4096 _ a p ⟨32 + a, by omega⟩ p rfl (Nat.zero_add _).symm).trans (hp _ _)
  · exact fun i => (load arg11.view _ n 0 256 1 (inb_mask hn) i 0 ⟨n + i, by omega⟩ 0 rfl rfl).trans (hc _)
  · exact fun k p => (load arg9.view _ 64 0 256 4096 _ k p ⟨64 + k, by omega⟩ p rfl (Nat.zero_add _).symm).trans (hp _ _)
  · have e : (Rect.unit (s := S512x4352) ![256, 128 + n] S256x256.size (inb_slab hn)).emb (ix2 k i) = ix2 ⟨256 + k, by omega⟩ ⟨128 + n + i, by omega⟩ := by
      funext d
      match d with
      | 0 => exact Fin.ext (congrArg (256 + ·) (Nat.one_mul k.val))
      | 1 => exact Fin.ext (congrArg (128 + n + ·) (Nat.one_mul i.val))
    rw [e]
    show _ = slab (stack (image x0) (attnAt x0 x1 x2 x3 x4)) ⟨256 + k, by omega⟩ (128 + n + i)
    rw [slab, dif_pos (by omega), stack, dif_neg (by dsimp only; omega)]
    unfold attnAt
    congr 1
    · exact Fin.ext (by dsimp only; omega)
    · exact Fin.ext (by dsimp only; omega)

/-- What the sixteen blocks leave over what was there: the slab of the image stacked on its attention. -/
theorem full_slab (r : Fin 512) (q : Fin 4352) :
    View.canon (Val := Elt Ideal) (kernelRun0_A.sl.HS0_20 (F := Ideal) c arg1 harg1 arg2 harg2 arg3 harg3 arg4 harg4 arg5 harg5 arg8 arg9 arg10 arg11 x0 x1 x2 x3 x4) (ix2 r q)
      = slab (stack (image x0) (attnAt x0 x1 x2 x3 x4)) r q.val := by
  have P := piece c arg1 harg1 arg2 harg2 arg3 harg3 arg4 harg4 arg5 harg5 arg8 arg9 arg10 arg11 x0 x1 x2 x3 x4
  have S := fun p L => canon_cons_of (a := 512) (b := 4352) (e := .bf16) (fullSlab x0 x1 x2 x3 x4) p L (ix2 r q)
  change _ = fullSlab x0 x1 x2 x3 x4 (ix2 r q)
  unfold kernelRun0_A.sl.HS0_20
  refine S _ _ (P 3840 (by norm_num)) fun h15 => S _ _ (P 3584 (by norm_num)) fun h14 => S _ _ (P 3328 (by norm_num)) fun h13 =>
    S _ _ (P 3072 (by norm_num)) fun h12 => S _ _ (P 2816 (by norm_num)) fun h11 => S _ _ (P 2560 (by norm_num)) fun h10 =>
    S _ _ (P 2304 (by norm_num)) fun h9 => S _ _ (P 2048 (by norm_num)) fun h8 => S _ _ (P 1792 (by norm_num)) fun h7 =>
    S _ _ (P 1536 (by norm_num)) fun h6 => S _ _ (P 1280 (by norm_num)) fun h5 => S _ _ (P 1024 (by norm_num)) fun h4 =>
    S _ _ (P 768 (by norm_num)) fun h3 => S _ _ (P 512 (by norm_num)) fun h2 => S _ _ (P 256 (by norm_num)) fun h1 =>
    S _ _ (P 0 (by norm_num)) fun h0 => ?_
  rw [mem_rect] at h0 h1 h2 h3 h4 h5 h6 h7 h8 h9 h10 h11 h12 h13 h14 h15
  change _ = slab (stack (image x0) (attnAt x0 x1 x2 x3 x4)) r q.val
  have hq := q.2
  by_cases hr : r.val < 256
  · rw [image_slab c arg1 harg1 arg2 harg2 x0 x1 ⟨r, hr⟩ r q rfl]
    simp only [slab, stack, dif_pos hr]
  · by_cases h : 128 ≤ q.val ∧ q.val < 4224
    · exact absurd h (by have := r.2; omega)
    · rw [pad_slab c arg1 harg1 arg2 harg2 x0 x1 r q (by omega) h, slab, dif_neg h]

end Cert.KernelIdeal.Attention

end

end
-- ==== Proof.Output.lean ====
/- What the kernel stores in its output block: the output convolution of the image stacked on its attention. -/
module

public import proofs.«01_k».proof.Proof.Attention
public import proofs.«01_k».proof.Proof.Gen.KernelIdeal.Frame
public import Idealize.ShloMosaic.Lib.VecWindow

@[expose] public section

set_option maxRecDepth 16384

noncomputable section

namespace Cert.KernelIdeal.Output

open Cert.Images Idealize.ShloMosaic Idealize.ShloMosaic.TcCoe Idealize.SL.Sem Cert.KernelIdeal Cert.KernelIdeal.Gen Cert.Taps Cert.KernelIdeal.Slab Cert.KernelIdeal.Projections
  Cert.KernelIdeal.Attention

/-- A load of all 512 rows and 4096 columns of a slab, shifted by `o` columns. -/
theorem window {κ : Kind} {sp : Space} (v : View sig κ sp S512x4352 .bf16) (L : List (View.Piece (Elt Ideal) S512x4352 .bf16)) (X : Fin 512 → Fin 4096 → EReal)
    (hL : ∀ (r : Fin 512) (q : Fin 4352), View.canon (Val := Elt Ideal) L (ix2 r q) = slab X r q)
    (o : ℕ) (inb : ∀ a, (![0, o] : Fin 2 → ℕ) a + S512x4096.size a ≤ S512x4352.size a) (k : Fin 512) (p : Fin 4096) :
    v.readCov L (Rect.unit (s := S512x4352) ![0, o] S512x4096.size inb).toLoadRect (ix2 k p) = slab X k (o + p) := by
  have ho : o + 4096 ≤ 4352 := inb 1
  have hp := p.2
  exact (load v L 0 o 512 4096 inb k p k ⟨o + p, by omega⟩ (Nat.zero_add _).symm rfl).trans (hL k _)

variable (c : Dev nD) (arg1 : Memref sig .tc .vmem S1x256x4096 .f32) (harg1 : arg1.IsWhole) (arg2 : Memref sig .tc .vmem S1x256x4096 .f32) (harg2 : arg2.IsWhole)
  (arg3 : Memref sig .tc .vmem S9x320x256 .bf16) (harg3 : arg3.IsWhole) (arg4 : Memref sig .tc .vmem S320x1 .f32) (harg4 : arg4.IsWhole)
  (arg5 : Memref sig .tc .vmem S9x8x256 .bf16) (harg5 : arg5.IsWhole) (arg6 : Memref sig .tc .vmem S9x256x512 .bf16) (harg6 : arg6.IsWhole)
  (arg7 : Memref sig .tc .vmem S1x256x4096 .f32) (harg7 : arg7.IsWhole)
  (arg8 : Memref sig .tc .vmem S512x4352 .bf16) (harg8 : arg8.IsWhole)
  (arg9 : Memref sig .tc .vmem S320x4096 .bf16) (harg9 : arg9.IsWhole) (arg10 : Memref sig .tc .vmem S8x4096 .f32) (harg10 : arg10.IsWhole)
  (arg11 : Memref sig .tc .vmem S4096x8 .f32) (harg11 : arg11.IsWhole)
  (x0 x1 : Vec Ideal S1x256x4096 .f32) (x2 : Vec Ideal S9x320x256 .bf16) (x3 : Vec Ideal S320x1 .f32) (x4 : Vec Ideal S9x8x256 .bf16)
  (x5 : Vec Ideal S9x256x512 .bf16)

/-- The output convolution of the image stacked on its attention. -/
def outAt (o : Fin 256) (p : Fin 4096) : EReal := convK (fun s k => x5 (ix3 s o k)) (stack (image x0) (attnAt x0 x1 x2 x3 x4)) p

/-- What the kernel stores in its output block. -/
theorem stored (o : Fin 256) (p : Fin 4096) :
    k0_pay1 (kernelRun0_A.sl.r_27 (F := Ideal) c arg1 harg1 arg2 harg2 arg3 harg3 arg4 harg4 arg5 harg5 arg6 harg6 arg8 arg9 arg10 arg11 x0 x1 x2 x3 x4 x5)
        (kernelRun0_A.sl.r_28 (F := Ideal) c arg1 harg1 arg2 harg2 arg3 harg3 arg4 harg4 arg5 harg5 arg6 harg6 arg8 arg9 arg10 arg11 x0 x1 x2 x3 x4 x5)
        (kernelRun0_A.sl.r_29 (F := Ideal)) (ix3 0 o p)
      = outAt x0 x1 x2 x3 x4 x5 o p := by
  have hw := window arg8.view _ _ (full_slab c arg1 harg1 arg2 harg2 arg3 harg3 arg4 harg4 arg5 harg5 arg8 arg9 arg10 arg11 x0 x1 x2 x3 x4)
  simp only [kernelRun0_A.sl.r_25, kernelRun0_A.sl.r_26, kernelRun0_A.sl.r_27, kernelRun0_A.sl.r_28, kernelRun0_A.sl.r_29, View.readAt_eq_ld,
    Memref.IsWhole.read_unread]
  pointwise [k0_pay1, k0_pay57, k0_pay58, k0_pay59, k0_pay60, k0_pay61, k0_pay62]
  simp only [kernelRun0_A.sl.v599, kernelRun0_A.sl.v604, kernelRun0_A.sl.v609, kernelRun0_A.sl.v618, kernelRun0_A.sl.v623, kernelRun0_A.sl.v628,
    kernelRun0_A.sl.v635, kernelRun0_A.sl.v640, kernelRun0_A.sl.v645, hw, Masks.left, Masks.right]
  rfl

/-- What a grid point leaves in its output buffer. -/
theorem buffer (i : grid0.Coords) :
    out0_A_6 c i arg1 harg1 arg2 harg2 arg3 harg3 arg4 harg4 arg5 harg5 arg6 harg6 arg7 harg7 arg8 harg8 arg9 harg9 arg10 harg10 arg11 harg11 x0 x1 x2 x3 x4 x5
      = fun y => outAt x0 x1 x2 x3 x4 x5 (y 1) (y 2) := by
  refine (View.read_writes_full _ _ inb_S1x256x4096_S1x256x4096_0_0_0 _ _).trans (funext fun y => ?_)
  have e : y = ix3 (0 : Fin 1) (y 1) (y 2) := (eq_ix3 y).trans (congrArg (fun a : Fin 1 => ix3 a (y 1) (y 2)) (Subsingleton.elim (α := Fin 1) (y 0) 0))
  exact (congrArg _ e).trans <| stored c arg1 harg1 arg2 harg2 arg3 harg3 arg4 harg4 arg5 harg5 arg6 harg6 arg8 arg9 arg10 arg11 x0 x1 x2 x3 x4 x5 (y 1) (y 2)

end Cert.KernelIdeal.Output

end

end
-- ==== Proof.Final.lean ====
/- What the kernel's result array holds after the run, over the arrays its region finds. -/
module

public import proofs.«01_k».proof.Proof.Output
public import Idealize.ShloMosaic.Lib.Pipeline.ValueKit

@[expose] public section

set_option maxRecDepth 16384

noncomputable section

namespace Cert.KernelIdeal.Final

open Cert.Images Idealize.ShloMosaic Idealize.ShloMosaic.TcCoe Idealize.SL.Sem Cert.KernelIdeal Cert.KernelIdeal.Gen Cert.Taps Cert.KernelIdeal.Projections
  Cert.KernelIdeal.Attention Cert.KernelIdeal.Output
open Idealize.ShloMosaic.Pipeline (Dat)

variable (m : (ℓ : Loc nD τ sig) → Buf (Elt Ideal) ℓ)

/-- The windows' block indices: grid point `t` takes image `t` of the two inputs and of the output, and the whole of the weights. -/
theorem idx : ∀ t : Fin cfg0.N, win0_0.index t = ![t.val, 0, 0] ∧ win0_1.index t = ![t.val, 0, 0] ∧ win0_2.index t = ![0, 0, 0] ∧ win0_3.index t = ![0, 0]
    ∧ win0_4.index t = ![0, 0, 0] ∧ win0_5.index t = ![0, 0, 0] ∧ win0_6.index t = ![t.val, 0, 0] :=
  (by decide +kernel : ∀ t : Fin grid0.N, _)

/-- Image `b` of an array of eight images, as a block. -/
def imageOf (x : FVec Ideal S8x256x4096 .f32) (b : Fin 8) : FVec Ideal S1x256x4096 .f32 := fun y => x (ix3 b (y 1) (y 2))

/-- The result array over the arrays the region finds: at image `b` the output convolution of that image. -/
def result (x y : FVec Ideal S8x256x4096 .f32) (w : FVec Ideal S9x320x256 .bf16) (b : FVec Ideal S320x1 .f32) (wd : FVec Ideal S9x8x256 .bf16)
    (wo : FVec Ideal S9x256x512 .bf16) : FVec Ideal S8x256x4096 .f32 :=
  fun i => outAt (imageOf x (i 0)) (imageOf y (i 0)) w b wd wo (i 1) (i 2)

/-- Grid point `t` finds its image of the first input. -/
theorem block0 (c : Dev nD) (t : Fin cfg0.N) : (iblk m c 0 t : FVec Ideal S1x256x4096 .f32) = imageOf (V m c main_v0) ⟨t.val, t.2⟩ := by
  funext z
  blk_simp [iblk]
  blk_ext [imageOf, idx t]

/-- Grid point `t` finds its image of the second input. -/
theorem block1 (c : Dev nD) (t : Fin cfg0.N) : (iblk m c 1 t : FVec Ideal S1x256x4096 .f32) = imageOf (V m c main_v1) ⟨t.val, t.2⟩ := by
  funext z
  blk_simp [iblk]
  blk_ext [imageOf, idx t]

/-- Grid point `t` finds the whole of the projections' weights. -/
theorem block2 (c : Dev nD) (t : Fin cfg0.N) : (iblk m c 2 t : FVec Ideal S9x320x256 .bf16) = V m c main_v5 := by
  funext z
  blk_simp [iblk]
  blk_ext [idx t]

/-- Grid point `t` finds the whole of the biases. -/
theorem block3 (c : Dev nD) (t : Fin cfg0.N) : (iblk m c 3 t : FVec Ideal S320x1 .f32) = V m c main_v7 := by
  funext z
  blk_simp [iblk]
  blk_ext [idx t]

/-- Grid point `t` finds the whole of the mask's weights. -/
theorem block4 (c : Dev nD) (t : Fin cfg0.N) : (iblk m c 4 t : FVec Ideal S9x8x256 .bf16) = V m c main_v11 := by
  funext z
  blk_simp [iblk]
  blk_ext [idx t]

/-- Grid point `t` finds the whole of the output's weights. -/
theorem block5 (c : Dev nD) (t : Fin cfg0.N) : (iblk m c 5 t : FVec Ideal S9x256x512 .bf16) = V m c main_v14 := by
  funext z
  blk_simp [iblk]
  blk_ext [idx t]

/-- The result array after the run. -/
theorem final (c : Dev nD) : (dats m 0 c).arrAt 6 cfg0.N
    = result (V m c main_v0) (V m c main_v1) (V m c main_v5) (V m c main_v7) (V m c main_v11) (V m c main_v14) := by
  refine (dats m 0 c).arrAt_eq_of_covers 6 _ (by decide +kernel) fun t _ y => ?_
  blk_simp
  rw [after0_6, outsAt0, buffer, block0, block1, block2, block3, block4, block5]
  have e : ((View.whole main_v15).slice (win0_6.rect t)).emb y = ix3 (⟨t.val, t.2⟩ : Fin 8) (y 1) (y 2) := by
    blk_ext [idx t]
  rw [e]
  rfl

end Cert.KernelIdeal.Final

end

end
-- ==== Proof.Result.lean ====
/- The kernel's result array over its arguments. -/
module

public import proofs.«01_k».proof.Proof.Entry
public import proofs.«01_k».proof.Proof.Final

@[expose] public section

set_option maxRecDepth 16384

noncomputable section

namespace Cert.KernelIdeal.Result

open Idealize.ShloMosaic Idealize.ShloMosaic.TcCoe Idealize.SL.Sem Cert.KernelIdeal Cert.KernelIdeal.Gen Cert.Taps Cert.Images Cert.KernelIdeal.Slab
  Cert.KernelIdeal.Projections Cert.KernelIdeal.Attention Cert.KernelIdeal.Output Cert.KernelIdeal.Final Cert.KernelIdeal.Entry

/-- The result at image `b`, output channel `o` and pixel `p`, over the arguments. -/
def value (x y : (⟨4, ![8, 256, 64, 64]⟩ : Shape).Idx → EReal) (wq : (⟨4, ![32, 256, 3, 3]⟩ : Shape).Idx → EReal) (bq : (⟨1, ![32]⟩ : Shape).Idx → EReal)
    (wk : (⟨4, ![32, 256, 3, 3]⟩ : Shape).Idx → EReal) (bk : (⟨1, ![32]⟩ : Shape).Idx → EReal) (wv : (⟨4, ![256, 256, 3, 3]⟩ : Shape).Idx → EReal)
    (bv : (⟨1, ![256]⟩ : Shape).Idx → EReal) (wd : (⟨4, ![1, 256, 3, 3]⟩ : Shape).Idx → EReal) (wo : (⟨4, ![256, 512, 3, 3]⟩ : Shape).Idx → EReal)
    (b : Fin 8) (o : Fin 256) (p : Fin 4096) : EReal :=
  conv (weights wo o) (stack (flat x b) (attnK (project wq bq (flat x b)) (project wk bk (flat x b)) (project wv bv (flat x b)) (mask wd (flat y b)))) p

section

variable (x0 x1 : FVec Ideal S1x256x4096 .f32) (x2 : FVec Ideal S9x320x256 .bf16) (x3 : FVec Ideal S320x1 .f32) (x4 : FVec Ideal S9x8x256 .bf16)
  (x5 : FVec Ideal S9x256x512 .bf16) (wq wk : (⟨4, ![32, 256, 3, 3]⟩ : Shape).Idx → EReal) (bq bk : (⟨1, ![32]⟩ : Shape).Idx → EReal)
  (wv : (⟨4, ![256, 256, 3, 3]⟩ : Shape).Idx → EReal) (bv : (⟨1, ![256]⟩ : Shape).Idx → EReal) (wd : (⟨4, ![1, 256, 3, 3]⟩ : Shape).Idx → EReal)
  (wo : (⟨4, ![256, 512, 3, 3]⟩ : Shape).Idx → EReal) (X Y : Fin 256 → Fin 4096 → EReal)
  (h0 : ∀ k p, x0 (ix3 0 k p) = X k p) (h1 : ∀ k p, x1 (ix3 0 k p) = Y k p)
  (h2 : ∀ (s : Fin 9) (o : Fin 320) (k : Fin 256), x2 (ix3 s o k) = if h : o.val < 32 then weights wq (⟨o, h⟩ : Fin 32) s k
    else if h : o.val - 32 < 32 then weights wk (⟨o - 32, h⟩ : Fin 32) s k else weights wv (⟨o - 32 - 32, by omega⟩ : Fin 256) s k)
  (h3 : ∀ o : Fin 320, x3 (ix2 o 0) = if h : o.val < 32 then bq (ix1 (⟨o, h⟩ : Fin 32))
    else if h : o.val - 32 < 32 then bk (ix1 (⟨o - 32, h⟩ : Fin 32)) else bv (ix1 (⟨o - 32 - 32, by omega⟩ : Fin 256)))
  (h4 : ∀ s k, x4 (ix3 s 0 k) = weights wd 0 s k) (h5 : ∀ s o k, x5 (ix3 s o k) = weights wo o s k)

include h0 in
/-- The block of an image. -/
theorem image_block : image x0 = X := funext fun k => funext fun p => h0 k p

include h0 h2 h3

/-- The first 32 projections are the queries. -/
theorem queries (a : Fin 32) : proj x0 x2 x3 ⟨a, by omega⟩ = project wq bq X a := by
  funext p
  simp only [proj, project, image_block x0 X h0, h2, h3, convK_eq_conv, dif_pos a.2]

/-- The next 32 projections are the keys. -/
theorem keys (a : Fin 32) : proj x0 x2 x3 ⟨32 + a, by omega⟩ = project wk bk X a := by
  funext p
  have h : ¬ 32 + a.val < 32 := by omega
  have e : 32 + a.val - 32 = a.val := by omega
  simp only [proj, project, image_block x0 X h0, h2, h3, convK_eq_conv, dif_neg h, e, dif_pos a.2]

/-- The last 256 projections are the values. -/
theorem values (a : Fin 256) : proj x0 x2 x3 ⟨64 + a, by omega⟩ = project wv bv X a := by
  funext p
  have h : ¬ 64 + a.val < 32 := by omega
  have h' : ¬ 64 + a.val - 32 < 32 := by omega
  have e : 64 + a.val - 32 - 32 = a.val := by omega
  simp only [proj, project, image_block x0 X h0, h2, h3, convK_eq_conv, dif_neg h, dif_neg h', e]

omit h0 h2 h3
include h1 h4 in
/-- The clipped mask of an image. -/
theorem mask_value : maskAt x1 x4 = mask wd Y := by
  funext p
  simp only [maskAt, mask, image_block x1 Y h1, h4, convK_eq_conv]

include h0 h1 h2 h3 h4 h5 in
/-- The output block over the images and the weights. -/
theorem block (o : Fin 256) (p : Fin 4096) : outAt x0 x1 x2 x3 x4 x5 o p
    = conv (weights wo o) (stack X (attnK (project wq bq X) (project wk bk X) (project wv bv X) (mask wd Y))) p := by
  have q := funext (queries x0 x2 x3 wq wk bq bk wv bv X h0 h2 h3)
  have k := funext (keys x0 x2 x3 wq wk bq bk wv bv X h0 h2 h3)
  have v := funext (values x0 x2 x3 wq wk bq bk wv bv X h0 h2 h3)
  rw [outAt, attnAt, q, k, v, mask_value x1 x4 wd Y h1 h4, image_block x0 X h0, convK_eq_conv]
  simp only [h5]

end

variable (m : (ℓ : Loc nD τ sig) → Buf (Elt Ideal) ℓ) (c : Dev nD) (b : Fin 8)

/-- The kernel's result array before its final reshape. -/
theorem array (o : Fin 256) (p : Fin 4096) : (dats m 0 c).arrAt 6 cfg0.N (ix3 b o p)
    = value (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) b o p := by
  rw [final]
  exact block (imageOf (V m c main_v0) b) (imageOf (V m c main_v1) b) (V m c main_v5) (V m c main_v7) (V m c main_v11) (V m c main_v14)
    _ _ _ _ _ _ _ _ _ _ (images m c b) (mask_images m c b) (projection_weights m c) (biases m c) (mask_weights m c) (output_weights m c) o p

end Cert.KernelIdeal.Result

end

end
-- ==== Proof.Softmax.lean ====
/- One row of attention over the extended reals. The reference takes the softmax of a row of energies (the row's maximum subtracted first) and weights the
   values by it; the kernel weights the values by the powers of two of the energies scaled by `1 / log 2`, without subtracting the maximum, and multiplies the
   result by the reciprocal of the sum of the powers. The two agree where the queries, keys and mask are real; the values may be any extended reals. -/
module

public import Idealize.ShloMosaic.PureOps.Ideal
public import Mathlib.Analysis.SpecialFunctions.Pow.Real

@[expose] public section

noncomputable section

namespace Cert.Softmax

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A positive real factor moves into a finite sum of extended reals. -/
theorem sum_mul_pos {ι : Type} (s : Finset ι) (f : ι → EReal) (r : ℝ) (hr : 0 < r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr.le) (EReal.coe_ne_top r) _ _

/-- The maximum of a row that holds a real is real, when every entry is. -/
theorem fold_max_coe {N : ℕ} (e : Fin (N + 1) → ℝ) :
    ∃ M : ℝ, max ⊥ ((Finset.univ : Finset (Fin (N + 1))).fold max ⊥ fun m => (e m : EReal)) = (M : EReal) := by
  have key : ∀ s : Finset (Fin (N + 1)), s.Nonempty → ∃ M : ℝ, s.fold max ⊥ (fun m => (e m : EReal)) = (M : EReal) := by
    intro s hs
    induction hs using Finset.Nonempty.cons_induction with
    | singleton a => exact ⟨e a, by simp⟩
    | cons a s ha hs ih =>
      obtain ⟨M, hM⟩ := ih
      refine ⟨max (e a) M, ?_⟩
      rw [Finset.fold_cons, hM]
      exact (EReal.coe_strictMono.monotone.map_max (a := e a) (b := M)).symm
  obtain ⟨M, hM⟩ := key Finset.univ Finset.univ_nonempty
  exact ⟨M, by rw [hM]; simp⟩

/-- A quotient of reals with a positive divisor. -/
theorem div_coe_pos (x y : ℝ) (hy : 0 < y) : Ideal.div (x : EReal) (y : EReal) = ((x / y : ℝ) : EReal) := by
  rw [Ideal.div, if_neg (by exact_mod_cast hy.ne'), div_eq_mul_inv, EReal.coe_mul, EReal.coe_inv]

/-- The power of two of an energy scaled by `1 / log 2` is its exponential. -/
theorem exp2_scaled (a b d : ℝ) :
    Ideal.exp2 ((a : EReal) * (b : EReal) * ((((Real.log 2)⁻¹ : ℝ) : EReal) * (1 - (d : EReal)))) = ((Real.exp (a * b * (1 - d)) : ℝ) : EReal) := by
  have h2 : Real.log 2 ≠ 0 := (Real.log_pos (by norm_num)).ne'
  have e : (a : EReal) * (b : EReal) * ((((Real.log 2)⁻¹ : ℝ) : EReal) * (1 - (d : EReal))) = ((a * b * ((Real.log 2)⁻¹ * (1 - d)) : ℝ) : EReal) := by
    push_cast; rfl
  rw [e]
  show ((Real.rpow 2 _ : ℝ) : EReal) = _
  congr 1
  show (2 : ℝ) ^ (a * b * ((Real.log 2)⁻¹ * (1 - d)) : ℝ) = _
  rw [Real.rpow_def_of_pos (by norm_num)]
  congr 1
  field_simp

/-- One row of attention: the kernel's unnormalised weights divided at the end are the reference's softmax. `e` is the row's dot products of queries and keys,
    `mm` the mask over the keys, `d` the mask at the query, `v` the values. -/
theorem row_eq {N : ℕ} (e mm : Fin (N + 1) → ℝ) (d : ℝ) (v : Fin (N + 1) → EReal) (E : Fin (N + 1) → EReal)
    (hE : ∀ m, E m = (e m : EReal) * (mm m : EReal) * (1 - (d : EReal))) :
    (∑ m, v m * Ideal.exp2 ((e m : EReal) * (mm m : EReal) * ((((Real.log 2)⁻¹ : ℝ) : EReal) * (1 - (d : EReal)))))
        * Ideal.div 1 (∑ m, 1 * Ideal.exp2 ((e m : EReal) * (mm m : EReal) * ((((Real.log 2)⁻¹ : ℝ) : EReal) * (1 - (d : EReal)))))
      = ∑ m, v m * Ideal.div (Ideal.exp (E m - max ⊥ (Finset.univ.fold max ⊥ E)))
          (0 + ∑ k, Ideal.exp (E k - max ⊥ (Finset.univ.fold max ⊥ E))) := by
  have hE' : E = fun m => ((e m * mm m * (1 - d) : ℝ) : EReal) := by
    funext m; rw [hE]; push_cast; rfl
  obtain ⟨M, hM⟩ := fold_max_coe fun m => e m * mm m * (1 - d)
  simp only [exp2_scaled, one_mul, zero_add]
  rw [hE']
  simp only [hM]
  have hx : ∀ m, Ideal.exp (((e m * mm m * (1 - d) : ℝ) : EReal) - (M : EReal)) = ((Real.exp (e m * mm m * (1 - d) - M) : ℝ) : EReal) := by
    intro m; rw [← EReal.coe_sub]; rfl
  simp only [hx, ← coe_sum]
  have hS : 0 < ∑ m, Real.exp (e m * mm m * (1 - d)) := Finset.sum_pos (fun _ _ => Real.exp_pos _) Finset.univ_nonempty
  have hS' : 0 < ∑ m, Real.exp (e m * mm m * (1 - d) - M) := Finset.sum_pos (fun _ _ => Real.exp_pos _) Finset.univ_nonempty
  have h1 : Ideal.div 1 ((∑ m, Real.exp (e m * mm m * (1 - d)) : ℝ) : EReal) = ((1 / ∑ m, Real.exp (e m * mm m * (1 - d)) : ℝ) : EReal) :=
    div_coe_pos 1 _ hS
  rw [h1, sum_mul_pos _ _ _ (by positivity)]
  refine Finset.sum_congr rfl fun m _ => ?_
  rw [div_coe_pos _ _ hS', mul_assoc, ← EReal.coe_mul]
  congr 2
  simp only [Real.exp_sub, ← Finset.sum_div]
  have := (Real.exp_pos M).ne'
  field_simp

end Cert.Softmax

end

end
-- ==== Proof.Reals.lean ====
/- On real images, query weights and key weights the kernel's attention is the reference's. -/
module

public import proofs.«01_k».proof.Proof.RefAttention
public import proofs.«01_k».proof.Proof.Result
public import proofs.«01_k».proof.Proof.Softmax

@[expose] public section

set_option maxRecDepth 16384

noncomputable section

namespace Cert.Reals

open Idealize.ShloMosaic Cert.Taps Cert.Images Cert.ReferenceIdeal.Attention Cert.KernelIdeal.Attention

/-- An extended real that is a real. -/
def IsReal (z : EReal) : Prop := ∃ r : ℝ, z = (r : EReal)

/-- A sum of two reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type} (s : Finset ι) (f : ι → EReal) (h : ∀ i, IsReal (f i)) : IsReal (∑ i ∈ s, f i) := by
  choose g hg using h
  exact ⟨∑ i ∈ s, g i, by rw [Softmax.coe_sum]; exact Finset.sum_congr rfl fun i _ => hg i⟩

/-- An extended real whose absolute value is below infinity is a real. -/
theorem isReal_of_abs_lt {z : EReal} (h : max z (-z) < ⊤) : IsReal z := by
  induction z with
  | bot => simp at h
  | coe r => exact ⟨r, rfl⟩
  | top => simp at h

variable {C : ℕ}

/-- A padded real image is real. -/
theorem isReal_padded (X : Fin C → Fin 4096 → EReal) (h : ∀ c p, IsReal (X c p)) (c : Fin C) (r s : ℕ) : IsReal (padded X c r s) := by
  unfold padded
  split
  · exact h _ _
  · exact ⟨0, EReal.coe_zero.symm⟩

/-- A convolution of a real image with real weights is real. -/
theorem isReal_conv (W : Fin 9 → Fin C → EReal) (X : Fin C → Fin 4096 → EReal) (hW : ∀ s c, IsReal (W s c)) (hX : ∀ c p, IsReal (X c p)) (p : Fin 4096) :
    IsReal (conv W X p) := by
  have t : ∀ s r c, IsReal (tap (W s) X r c) := fun s r c => isReal_sum _ _ fun k => isReal_mul (hW s k) (isReal_padded X hX k r c)
  unfold conv
  exact isReal_add (isReal_add (isReal_add (isReal_add (isReal_add (isReal_add (isReal_add (isReal_add (t ..) (t ..)) (t ..)) (t ..)) (t ..)) (t ..)) (t ..)) (t ..)) (t ..)

/-- A projection of a real image with real weights and biases is real. -/
theorem isReal_project {O : ℕ} (w : (⟨4, ![O, 256, 3, 3]⟩ : Shape).Idx → EReal) (b : (⟨1, ![O]⟩ : Shape).Idx → EReal) (X : Fin 256 → Fin 4096 → EReal)
    (hw : ∀ i, IsReal (w i)) (hb : ∀ i, IsReal (b i)) (hX : ∀ c p, IsReal (X c p)) (o : Fin O) (p : Fin 4096) : IsReal (project w b X o p) :=
  isReal_add (isReal_conv _ _ (fun _ _ => hw _) hX p) (hb _)

/-- A clipped mask is real, whatever the mask. -/
theorem isReal_mask (w : (⟨4, ![1, 256, 3, 3]⟩ : Shape).Idx → EReal) (Y : Fin 256 → Fin 4096 → EReal) (p : Fin 4096) : IsReal (mask w Y p) := by
  have h1 : mask w Y p ≤ 1 := min_le_left _ _
  have h0 : 0 ≤ mask w Y p := le_min zero_le_one (le_max_left _ _)
  refine ⟨(mask w Y p).toReal, (EReal.coe_toReal ?_ ?_).symm⟩
  · exact fun h => by rw [h] at h1; exact absurd h1 (not_le.2 (EReal.coe_lt_top 1))
  · exact fun h => by rw [h] at h0; exact absurd h0 (not_le.2 EReal.bot_lt_zero)

/-- On real queries, keys and masks the kernel's attention is the reference's, whatever the values. -/
theorem attention_eq (Q K : Fin 32 → Fin 4096 → EReal) (V : Fin 256 → Fin 4096 → EReal) (D : Fin 4096 → EReal)
    (hQ : ∀ a n, IsReal (Q a n)) (hK : ∀ a n, IsReal (K a n)) (hD : ∀ n, IsReal (D n)) : attnK Q K V D = attnR Q K V D := by
  funext k n
  have hE : ∀ j, IsReal (∑ a, Q a n * K a j) := fun j => isReal_sum _ _ fun a => isReal_mul (hQ a n) (hK a j)
  choose e he using hE
  choose d hd using hD
  have h := Softmax.row_eq (N := 4095) e d (d n) (V k) (energy Q K D n) (fun j => by rw [energy, he, hd, hd])
  unfold attnK attnR weight
  simp only [he, hd]
  rw [h]
  simp only [zero_add]

end Cert.Reals

end

end
-- ==== Proof.Precondition.lean ====
/- The precondition, read back: the images, the query weights and biases and the key weights and biases are real. -/
module

public import proofs.«01_k».proof.Defs
public import proofs.«01_k».proof.Proof.Reals
public import proofs.«01_k».proof.Proof.Gen.Pre_real_queries_and_keys
public import Idealize.ShloMosaic.Lib.ReduceAll

@[expose] public section

set_option maxRecDepth 16384

noncomputable section

namespace Cert.Precondition

open Idealize.ShloMosaic Cert.Reals Cert.Pre_real_queries_and_keys

/-- One conjunct of the precondition: every entry's absolute value is below infinity. -/
theorem isReal_of_all {S : Shape} {axes : List (Fin S.rank)} (x : FVec Ideal S .f32) (hb : S_.BroadcastsInDim S (![] : Fin 0 → Fin S.rank)) (h : S.ReducesTo axes S_)
    (hu : 0 < S_.numel) (j : S_.Idx)
    (e : Host.reduce IntOp.andi (cmpf .olt (Host.absf x) (broadcastInDim S ![] hb (constant S_ .f32 0x7F800000#32))) (constantI S_ 1 1#1) h hu j = 1#1) (i : S.Idx) :
    IsReal (x i) := by
  haveI : Subsingleton S_.Idx := ⟨fun a b => funext fun d => d.elim0⟩
  have hi := Host.reduce_andi_all _ _ h hu j e i
  have htop : Ideal.ofBits .f32 0x7F800000#32 = ⊤ := by simp [Ideal.ofBits, Ideal.ieee]
  have hc : Ideal.cmp .olt (max (x i : EReal) (-(x i : EReal))) (Ideal.ofBits .f32 0x7F800000#32) = 1#1 := hi
  rw [htop] at hc
  refine isReal_of_abs_lt ?_
  by_contra hn
  simp [Ideal.cmp, hn] at hc

/-- What the precondition says of the ten arguments. -/
theorem reads (x0 x1 : FVec Ideal S8x256x64x64 .f32) (x2 : FVec Ideal S32x256x3x3 .f32) (x3 : FVec Ideal S32 .f32) (x4 : FVec Ideal S32x256x3x3 .f32) (x5 : FVec Ideal S32 .f32)
    (x6 : FVec Ideal S256x256x3x3 .f32) (x7 : FVec Ideal S256 .f32) (x8 : FVec Ideal S1x256x3x3 .f32) (x9 : FVec Ideal S256x512x3x3 .f32) (j : S_.Idx)
    (e : fn (F := Ideal) x0 x1 x2 x3 x4 x5 x6 x7 x8 x9 j = 1#1) :
    (∀ i, IsReal (x0 i)) ∧ (∀ i, IsReal (x2 i)) ∧ (∀ i, IsReal (x3 i)) ∧ (∀ i, IsReal (x4 i)) ∧ ∀ i, IsReal (x5 i) := by
  dsimp only [fn, fn_part1] at e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨isReal_of_all x0 _ _ _ j h0, isReal_of_all x2 _ _ _ j h2, isReal_of_all x3 _ _ _ j h3, isReal_of_all x4 _ _ _ j h4, isReal_of_all x5 _ _ _ j h5⟩

end Cert.Precondition

end

end
-- ==== Proof.KernelRun.lean ====
/- The kernel's run: its result is the output window's array, reshaped to the image's rows and columns. -/
module

public import proofs.«01_k».proof.Proof.Gen.KernelIdeal.Frame
public import Idealize.ShloMosaic.Lib.Claim
public import Idealize.ShloMosaic.Lib.Pipeline.ValueKit

@[expose] public section

set_option maxRecDepth 16384

noncomputable section

namespace Cert.KernelIdeal.Run

open Idealize.ShloMosaic Idealize.ShloMosaic.TcCoe Idealize.SL.Sem Cert.KernelIdeal Cert.KernelIdeal.Gen Idealize.ShloMosaic.StableHlo

/-- Image `b`'s channel `o` at row `y` and column `x` of the reshaped array is the pixel `64 y + x`. -/
theorem reshaped (A : FVec Ideal S8x256x4096 .f32) (b : Fin 8) (o : Fin 256) (y x : Fin 64) :
    shapeCast S8x256x64x64 A shapeCasts_S8x256x4096_S8x256x64x64 (ix4 b o y x) = A (ix3 b o (⟨64 * y + x, by omega⟩ : Fin 4096)) := by
  pointwise []
  exact congrArg (fun p => A (ix3 b o p)) (Fin.ext (by dsimp only; omega))

variable (m : (ℓ : Loc nD τ sig) → Buf (Elt Ideal) ℓ) (ρ : Dev nD → PrngReg)

/-- The result array, over the output window's array. -/
def output (c : Dev nD) : FVec Ideal S8x256x64x64 .f32 :=
  shapeCast S8x256x64x64 ((dats m 0 c).arrAt 6 cfg0.N : FVec Ideal S8x256x4096 .f32) shapeCasts_S8x256x4096_S8x256x64x64

/-- What the line after the region leaves in the result array. -/
theorem tail (c : Dev nD) : Pipeline.afterTail₀ cfgs (dats m) 0 (V0 m) [hostOps1] c main_v16 = output m c := by
  have h : Pipeline.withArrays (cfgs 0).spec c (V0 m c) (fun w => (dats m 0 c).arrAt w (cfgs 0).N) (Proc.devRef .tc main_v15) = (dats m 0 c).arrAt 6 cfg0.N :=
    Pipeline.withArrays_arr spec0 (by decide) c (V0 m c) (fun w => (dats m 0 c).arrAt w cfg0.N) 6
  unfold Pipeline.afterTail₀ output
  rw [← h]
  generalize Pipeline.withArrays (cfgs 0).spec c (V0 m c) (fun w => (dats m 0 c).arrAt w (cfgs 0).N) = W
  simp only [hostOps1, List.flatten_cons, List.flatten_nil, List.append_nil]
  after_results
  rfl

/-- The kernel's run: its result named, its arguments unchanged. -/
theorem run : θ_run defs (onTc (τ := τ) (main (F := Ideal))) ⟨m, fun _ => 0, ρ⟩ fun r => ∀ c : Dev nD,
      r.2.mem ((c.tc : Thread nD τ).loc main_v16) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).2 main_v16 (Pipeline.mem_restRefs_of main_v16 (by decide) (by decide))).trans (tail m c), h.2 c⟩)
    (θ_run_and (run_main m ρ) (unchanged m ρ))

end Cert.KernelIdeal.Run

end

end
-- ==== Proof.RefResult.lean ====
/- The reference's result at every pixel: the output convolution of the image stacked on its attention. -/
module

public import proofs.«01_k».proof.Proof.RefAttention

@[expose] public section

set_option maxRecDepth 16384

noncomputable section

namespace Cert.ReferenceIdeal.OutputConvolution

open Idealize.ShloMosaic Idealize.ShloMosaic.TcCoe Idealize.SL.Sem Cert.ReferenceIdeal Cert.ReferenceIdeal.Gen Cert.ReferenceIdeal.Value Cert.Taps Cert.Images
  Idealize.ShloMosaic.StableHlo Cert.ReferenceIdeal.Convolutions Cert.ReferenceIdeal.Attention

/-- The reference's output convolution: nine slices of its padded operand, each contracted with one tap of the weights, added in order. -/
def taps (P : FVec Ideal S8x512x66x66 .f32) (w : FVec Ideal S256x512x3x3 .f32) : FVec Ideal S8x256x64x64 .f32 :=
  addf (addf (addf (addf (addf (addf (addf (addf
    (transpose S8x256x64x64 [0, 3, 1, 2] (Host.dotGeneral dot_S8x512x64x64_S256x512_S8x64x64x256_1_1_023_0_n_n none (extractStridedSlice S8x512x64x64 ![0, 0, 0, 0] P slices_S8x512x66x66_S8x512x64x64_0_0_0_0) (shapeCast _ (extractStridedSlice S256x512x1x1 ![0, 0, 0, 0] w slices_S256x512x3x3_S256x512x1x1_0_0_0_0) shapeCasts_S256x512x1x1_S256x512)) transposes_S8x64x64x256_S8x256x64x64_0_3_1_2)
    (transpose S8x256x64x64 [0, 3, 1, 2] (Host.dotGeneral dot_S8x512x64x64_S256x512_S8x64x64x256_1_1_023_0_n_n none (extractStridedSlice S8x512x64x64 ![0, 0, 0, 1] P slices_S8x512x66x66_S8x512x64x64_0_0_0_1) (shapeCast _ (extractStridedSlice S256x512x1x1 ![0, 0, 0, 1] w slices_S256x512x3x3_S256x512x1x1_0_0_0_1) shapeCasts_S256x512x1x1_S256x512)) transposes_S8x64x64x256_S8x256x64x64_0_3_1_2))
    (transpose S8x256x64x64 [0, 3, 1, 2] (Host.dotGeneral dot_S8x512x64x64_S256x512_S8x64x64x256_1_1_023_0_n_n none (extractStridedSlice S8x512x64x64 ![0, 0, 0, 2] P slices_S8x512x66x66_S8x512x64x64_0_0_0_2) (shapeCast _ (extractStridedSlice S256x512x1x1 ![0, 0, 0, 2] w slices_S256x512x3x3_S256x512x1x1_0_0_0_2) shapeCasts_S256x512x1x1_S256x512)) transposes_S8x64x64x256_S8x256x64x64_0_3_1_2))
    (transpose S8x256x64x64 [0, 3, 1, 2] (Host.dotGeneral dot_S8x512x64x64_S256x512_S8x64x64x256_1_1_023_0_n_n none (extractStridedSlice S8x512x64x64 ![0, 0, 1, 0] P slices_S8x512x66x66_S8x512x64x64_0_0_1_0) (shapeCast _ (extractStridedSlice S256x512x1x1 ![0, 0, 1, 0] w slices_S256x512x3x3_S256x512x1x1_0_0_1_0) shapeCasts_S256x512x1x1_S256x512)) transposes_S8x64x64x256_S8x256x64x64_0_3_1_2))
    (transpose S8x256x64x64 [0, 3, 1, 2] (Host.dotGeneral dot_S8x512x64x64_S256x512_S8x64x64x256_1_1_023_0_n_n none (extractStridedSlice S8x512x64x64 ![0, 0, 1, 1] P slices_S8x512x66x66_S8x512x64x64_0_0_1_1) (shapeCast _ (extractStridedSlice S256x512x1x1 ![0, 0, 1, 1] w slices_S256x512x3x3_S256x512x1x1_0_0_1_1) shapeCasts_S256x512x1x1_S256x512)) transposes_S8x64x64x256_S8x256x64x64_0_3_1_2))
    (transpose S8x256x64x64 [0, 3, 1, 2] (Host.dotGeneral dot_S8x512x64x64_S256x512_S8x64x64x256_1_1_023_0_n_n none (extractStridedSlice S8x512x64x64 ![0, 0, 1, 2] P slices_S8x512x66x66_S8x512x64x64_0_0_1_2) (shapeCast _ (extractStridedSlice S256x512x1x1 ![0, 0, 1, 2] w slices_S256x512x3x3_S256x512x1x1_0_0_1_2) shapeCasts_S256x512x1x1_S256x512)) transposes_S8x64x64x256_S8x256x64x64_0_3_1_2))
    (transpose S8x256x64x64 [0, 3, 1, 2] (Host.dotGeneral dot_S8x512x64x64_S256x512_S8x64x64x256_1_1_023_0_n_n none (extractStridedSlice S8x512x64x64 ![0, 0, 2, 0] P slices_S8x512x66x66_S8x512x64x64_0_0_2_0) (shapeCast _ (extractStridedSlice S256x512x1x1 ![0, 0, 2, 0] w slices_S256x512x3x3_S256x512x1x1_0_0_2_0) shapeCasts_S256x512x1x1_S256x512)) transposes_S8x64x64x256_S8x256x64x64_0_3_1_2))
    (transpose S8x256x64x64 [0, 3, 1, 2] (Host.dotGeneral dot_S8x512x64x64_S256x512_S8x64x64x256_1_1_023_0_n_n none (extractStridedSlice S8x512x64x64 ![0, 0, 2, 1] P slices_S8x512x66x66_S8x512x64x64_0_0_2_1) (shapeCast _ (extractStridedSlice S256x512x1x1 ![0, 0, 2, 1] w slices_S256x512x3x3_S256x512x1x1_0_0_2_1) shapeCasts_S256x512x1x1_S256x512)) transposes_S8x64x64x256_S8x256x64x64_0_3_1_2))
    (transpose S8x256x64x64 [0, 3, 1, 2] (Host.dotGeneral dot_S8x512x64x64_S256x512_S8x64x64x256_1_1_023_0_n_n none (extractStridedSlice S8x512x64x64 ![0, 0, 2, 2] P slices_S8x512x66x66_S8x512x64x64_0_0_2_2) (shapeCast _ (extractStridedSlice S256x512x1x1 ![0, 0, 2, 2] w slices_S256x512x3x3_S256x512x1x1_0_0_2_2) shapeCasts_S256x512x1x1_S256x512)) transposes_S8x64x64x256_S8x256x64x64_0_3_1_2)

/-- The output convolution of an operand that holds a padded image, at an index. -/
theorem taps_at (P : FVec Ideal S8x512x66x66 .f32) (w : FVec Ideal S256x512x3x3 .f32) (X : Fin 512 → Fin 4096 → EReal) (b : Fin 8)
    (hP : ∀ k r s, P (ix4 b k r s) = padded X k r.val s.val) (o : Fin 256) (y x : Fin 64) :
    taps P w (ix4 b o y x) = conv (weights w o) X (⟨64 * y + x, by omega⟩ : Fin 4096) := by
  pointwise [taps]
  exact nine_taps P w X b hP o y x

/-- The reference's result, at an index. -/
theorem result_at (V0 : Valuation τ sig (Elt Ideal)) (b : Fin 8) (o : Fin 256) (y x : Fin 64) :
    taps (res_main_v253 V0) (V0 (Proc.devRef .tc main_arg9)) (ix4 b o y x)
      = conv (weights (V0 (Proc.devRef .tc main_arg9)) o)
          (stack (flat (V0 (Proc.devRef .tc main_arg0)) b) (attnR (queries V0 b) (keys V0 b) (values V0 b) (masks V0 b))) (⟨64 * y + x, by omega⟩ : Fin 4096) :=
  taps_at _ _ _ b (fun k r s => stacked_at V0 b k r s) o y x

end Cert.ReferenceIdeal.OutputConvolution

end

end
-- ==== Proof.Equal.lean ====
/- The kernel's result is the reference's: index by index, on real images, queries' and keys' weights. -/
module

public import proofs.«01_k».proof.Proof.Precondition
public import proofs.«01_k».proof.Proof.KernelRun
public import proofs.«01_k».proof.Proof.RefResult

@[expose] public section

set_option maxRecDepth 16384

noncomputable section

namespace Cert.Equal

open Idealize.ShloMosaic Idealize.ShloMosaic.TcCoe Idealize.SL.Sem Cert.Taps Cert.Images Cert.Reals Cert.ReferenceIdeal.OutputConvolution

/-- The reference's result at an index is the kernel's value over the same arguments. -/
theorem reference_value (V0 : Valuation Cert.ReferenceIdeal.τ Cert.ReferenceIdeal.sig (Elt Ideal)) (x y : (⟨4, ![8, 256, 64, 64]⟩ : Shape).Idx → EReal)
    (wq : (⟨4, ![32, 256, 3, 3]⟩ : Shape).Idx → EReal) (bq : (⟨1, ![32]⟩ : Shape).Idx → EReal) (wk : (⟨4, ![32, 256, 3, 3]⟩ : Shape).Idx → EReal)
    (bk : (⟨1, ![32]⟩ : Shape).Idx → EReal) (wv : (⟨4, ![256, 256, 3, 3]⟩ : Shape).Idx → EReal) (bv : (⟨1, ![256]⟩ : Shape).Idx → EReal)
    (wd : (⟨4, ![1, 256, 3, 3]⟩ : Shape).Idx → EReal) (wo : (⟨4, ![256, 512, 3, 3]⟩ : Shape).Idx → EReal)
    (h0 : V0 (Proc.devRef .tc Cert.ReferenceIdeal.main_arg0) = x) (h1 : V0 (Proc.devRef .tc Cert.ReferenceIdeal.main_arg1) = y)
    (h2 : V0 (Proc.devRef .tc Cert.ReferenceIdeal.main_arg2) = wq) (h3 : V0 (Proc.devRef .tc Cert.ReferenceIdeal.main_arg3) = bq)
    (h4 : V0 (Proc.devRef .tc Cert.ReferenceIdeal.main_arg4) = wk) (h5 : V0 (Proc.devRef .tc Cert.ReferenceIdeal.main_arg5) = bk)
    (h6 : V0 (Proc.devRef .tc Cert.ReferenceIdeal.main_arg6) = wv) (h7 : V0 (Proc.devRef .tc Cert.ReferenceIdeal.main_arg7) = bv)
    (h8 : V0 (Proc.devRef .tc Cert.ReferenceIdeal.main_arg8) = wd) (h9 : V0 (Proc.devRef .tc Cert.ReferenceIdeal.main_arg9) = wo)
    (hx : ∀ i, IsReal (x i)) (hwq : ∀ i, IsReal (wq i)) (hbq : ∀ i, IsReal (bq i)) (hwk : ∀ i, IsReal (wk i)) (hbk : ∀ i, IsReal (bk i))
    (b : Fin 8) (o : Fin 256) (r s : Fin 64) :
    taps (Cert.ReferenceIdeal.Value.res_main_v253 V0) (V0 (Proc.devRef .tc Cert.ReferenceIdeal.main_arg9)) (ix4 b o r s)
      = Cert.KernelIdeal.Result.value x y wq bq wk bk wv bv wd wo b o (⟨64 * r + s, by omega⟩ : Fin 4096) := by
  have hX : ∀ k p, IsReal (flat x b k p) := fun _ _ => hx _
  refine (result_at V0 b o r s).trans ?_
  unfold Cert.KernelIdeal.Result.value
  rw [attention_eq _ _ _ _ (isReal_project wq bq _ hwq hbq hX) (isReal_project wk bk _ hwk hbk hX) (isReal_mask wd _)]
  subst h0 h1 h2 h3 h4 h5 h6 h7 h8 h9
  rfl

/-- From memories agreeing on the arguments the two programs' results are equal. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_real_queries_and_keys (hPre_real_queries_and_keys := Cert.Pre_real_queries_and_keys.Gen.facts) m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    taps (Cert.ReferenceIdeal.Value.res_main_v253 (StableHlo.launchContents m' c)) ((StableHlo.launchContents m' c) (Proc.devRef .tc Cert.ReferenceIdeal.main_arg9))
      = Cert.KernelIdeal.Run.output m c := by
  obtain ⟨a0, a1, a2, a3, a4, a5, a6, a7, a8, a9⟩ := hagree
  obtain ⟨hx, hwq, hbq, hwk, hbk⟩ := Precondition.reads _ _ _ _ _ _ _ _ _ _ ix0 (congrFun (hpre c) ix0)
  funext i
  obtain ⟨b, o, r, s, rfl⟩ : ∃ (b : Fin 8) (o : Fin 256) (r s : Fin 64), i = ix4 b o r s := ⟨i 0, i 1, i 2, i 3, eq_ix4 i⟩
  refine (reference_value _ _ _ _ _ _ _ _ _ _ _ a0 a1 a2 a3 a4 a5 a6 a7 a8 a9 hx hwq hbq hwk hbk b o r s).trans ?_
  exact ((Cert.KernelIdeal.Run.reshaped _ b o r s).trans (Cert.KernelIdeal.Result.array m c b o _)).symm

end Cert.Equal

end

end
-- ==== Proof.lean ====
/- The claims, assembled: the three programs' frames, the named constant, and the kernel's result equal to the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_real_queries_and_keys
public import proofs.«01_k».proof.Proof.Equal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference terminates with its arguments unchanged; its machine has no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run m g)

/-- From memories agreeing on the arguments, on real images, queries' and keys' weights, the kernel and the reference end with equal results, each leaving its arguments. -/
theorem algebraic : Cert.algebraic_KernelIdeal_ReferenceIdeal_pre_real_queries_and_keys (hKernelIdeal := Cert.KernelIdeal.Gen.facts)
    (hReferenceIdeal := Cert.ReferenceIdeal.Gen.facts) (hPre_real_queries_and_keys := Cert.Pre_real_queries_and_keys.Gen.facts) :=
  fun m g m' g' hpre hagree => ⟨Cert.KernelIdeal.Run.output m, Cert.KernelIdeal.Run.run m g,
    (θ_run Cert.ReferenceIdeal.defs _ _).mono (fun _ h c => ⟨(h c).1.trans (Equal.equal m m' hpre c (hagree c)), (h c).2⟩) (Cert.ReferenceIdeal.Value.run m' g')⟩

/-- Every claim. -/
theorem claim : Cert.Claim :=
  ⟨Cert.Kernel.Gen.facts, Cert.KernelIdeal.Gen.facts, Cert.ReferenceIdeal.Gen.facts, Cert.Pre_real_queries_and_keys.Gen.facts,
    fun m g _ => Cert.Kernel.Gen.frame m g, fun m g _ => Cert.KernelIdeal.Gen.frame m g, fun m g _ => Cert.KernelIdeal.Gen.frame m g,
    reference_frame, fun m g _ => reference_frame m g trivial,
    IdealRules.named_const.statement Cert.KernelIdeal.κ "log2e" .f32 0x3FB8AA3B#32 (((Real.log 2)⁻¹ : ℝ) : EReal) rfl,
    algebraic⟩

end Cert.Proof

end
